-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range_KernelIdeal [hPre_finite_and_in_range_KernelIdeal : Cert.Pre_finite_and_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range_ReferenceIdeal [hPre_finite_and_in_range_ReferenceIdeal : Cert.Pre_finite_and_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_in_range_KernelIdeal [hKernelIdeal : Cert.KernelIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_in_range_ReferenceIdeal [hReferenceIdeal : Cert.ReferenceIdeal.Facts] [hPre_finite_and_in_range_ReferenceIdeal : Cert.Pre_finite_and_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_in_range_KernelIdeal [hKernelIdeal : Cert.KernelIdeal.Facts] [hReferenceIdeal : Cert.ReferenceIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 16384]⟩ ⟨2, ![2048, 32768]⟩ (Layout.meshBlock [2, 2, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_in_range_KernelIdeal : Cert.Pre_finite_and_in_range_KernelIdeal.Facts) (hPre_finite_and_in_range_ReferenceIdeal : Cert.Pre_finite_and_in_range_ReferenceIdeal.Facts),
    quiescent_Kernel (hKernel := hKernel)
    ∧ quiescent_KernelIdeal (hKernelIdeal := hKernelIdeal)
    ∧ quiescent_KernelIdeal_pre_finite_and_in_range_KernelIdeal (hKernelIdeal := hKernelIdeal) (hPre_finite_and_in_range_KernelIdeal := hPre_finite_and_in_range_KernelIdeal)
    ∧ quiescent_ReferenceIdeal (hReferenceIdeal := hReferenceIdeal)
    ∧ quiescent_ReferenceIdeal_pre_finite_and_in_range_ReferenceIdeal (hReferenceIdeal := hReferenceIdeal) (hPre_finite_and_in_range_ReferenceIdeal := hPre_finite_and_in_range_ReferenceIdeal)
    ∧ preserves_Kernel_KernelIdeal
    ∧ algebraic_KernelIdeal_ReferenceIdeal_pre_finite_and_in_range_KernelIdeal (hKernelIdeal := hKernelIdeal) (hReferenceIdeal := hReferenceIdeal) (hPre_finite_and_in_range_KernelIdeal := hPre_finite_and_in_range_KernelIdeal)
-- ==== Pre_finite_and_in_range_KernelIdeal.lean ====
abbrev S1024x2048 : Shape := ⟨2, ![1024, 2048]⟩
abbrev S2048x16384 : Shape := ⟨2, ![2048, 16384]⟩
abbrev S1024x1 : Shape := ⟨2, ![1024, 1]⟩
abbrev S_ : Shape := ⟨0, ![]⟩

class Facts : Prop where
  bcast_S_S1024x2048 : S_.BroadcastsInDim S1024x2048 (![] : Fin 0 → Fin S1024x2048.rank)
  bcast_S_S2048x16384 : S_.BroadcastsInDim S2048x16384 (![] : Fin 0 → Fin S2048x16384.rank)
  bcast_S_S1024x1 : S_.BroadcastsInDim S1024x1 (![] : Fin 0 → Fin S1024x1.rank)

variable [Facts]

def fn {F : FTy → Type} [FloatOps F] (main_arg0 : FVec F S1024x2048 .f32) (main_arg1 : FVec F S2048x16384 .f32) (main_arg2 : IVec S1024x1 32) : IVec S1024x2048 1 × IVec S2048x16384 1 × IVec S1024x1 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_v3 : FVec F S2048x16384 .f32 := Host.absf main_arg1
  let main_cst_0 : FVec F S_ .f32 := constant S_ .f32 0x7F800000#32
  let main_v4 : FVec F S2048x16384 .f32 := broadcastInDim S2048x16384 ![] bcast_S_S2048x16384 main_cst_0
  let main_v5 : IVec S2048x16384 1 := cmpf .olt main_v3 main_v4
  let main_c : IVec S_ 32 := constantI S_ 32 0#32
  let main_v6 : IVec S1024x1 32 := broadcastInDim S1024x1 ![] bcast_S_S1024x1 main_c
  let main_v7 : IVec S1024x1 1 := cmpi .sge main_arg2 main_v6
  let main_c_1 : IVec S_ 32 := constantI S_ 32 32768#32
  let main_v8 : IVec S1024x1 32 := broadcastInDim S1024x1 ![] bcast_S_S1024x1 main_c_1
  let main_v9 : IVec S1024x1 1 := cmpi .slt main_arg2 main_v8
  let main_v10 : IVec S1024x1 1 := andi main_v7 main_v9
  (main_v2, main_v5, main_v10)
-- ==== Pre_finite_and_in_range_ReferenceIdeal.lean ====
abbrev S1024x2048 : Shape := ⟨2, ![1024, 2048]⟩
abbrev S2048x32768 : Shape := ⟨2, ![2048, 32768]⟩
abbrev S1024x1 : Shape := ⟨2, ![1024, 1]⟩
abbrev S_ : Shape := ⟨0, ![]⟩

class Facts : Prop where
  bcast_S_S1024x2048 : S_.BroadcastsInDim S1024x2048 (![] : Fin 0 → Fin S1024x2048.rank)
  bcast_S_S2048x32768 : S_.BroadcastsInDim S2048x32768 (![] : Fin 0 → Fin S2048x32768.rank)
  bcast_S_S1024x1 : S_.BroadcastsInDim S1024x1 (![] : Fin 0 → Fin S1024x1.rank)

variable [Facts]

def fn {F : FTy → Type} [FloatOps F] (main_arg0 : FVec F S1024x2048 .f32) (main_arg1 : FVec F S2048x32768 .f32) (main_arg2 : IVec S1024x1 32) : IVec S1024x2048 1 × IVec S2048x32768 1 × IVec S1024x1 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_v3 : FVec F S2048x32768 .f32 := Host.absf main_arg1
  let main_cst_0 : FVec F S_ .f32 := constant S_ .f32 0x7F800000#32
  let main_v4 : FVec F S2048x32768 .f32 := broadcastInDim S2048x32768 ![] bcast_S_S2048x32768 main_cst_0
  let main_v5 : IVec S2048x32768 1 := cmpf .olt main_v3 main_v4
  let main_c : IVec S_ 32 := constantI S_ 32 0#32
  let main_v6 : IVec S1024x1 32 := broadcastInDim S1024x1 ![] bcast_S_S1024x1 main_c
  let main_v7 : IVec S1024x1 1 := cmpi .sge main_arg2 main_v6
  let main_c_1 : IVec S_ 32 := constantI S_ 32 32768#32
  let main_v8 : IVec S1024x1 32 := broadcastInDim S1024x1 ![] bcast_S_S1024x1 main_c_1
  let main_v9 : IVec S1024x1 1 := cmpi .slt main_arg2 main_v8
  let main_v10 : IVec S1024x1 1 := andi main_v7 main_v9
  (main_v2, main_v5, main_v10)
-- ==== Kernel.lean ====
abbrev S1024x2048 : Shape := ⟨2, ![1024, 2048]⟩
abbrev S2048x16384 : Shape := ⟨2, ![2048, 16384]⟩
abbrev S1024x1 : Shape := ⟨2, ![1024, 1]⟩
abbrev S2x2048x1024 : Shape := ⟨3, ![2, 2048, 1024]⟩
abbrev S4x1024x2 : Shape := ⟨3, ![4, 1024, 2]⟩
abbrev S1024x2 : Shape := ⟨2, ![1024, 2]⟩
abbrev S_ : Shape := ⟨0, ![]⟩
abbrev S2 : Shape := ⟨1, ![2]⟩
abbrev S4 : Shape := ⟨1, ![4]⟩
abbrev S1 : Shape := ⟨1, ![1]⟩
abbrev S1x2048x1024 : Shape := ⟨3, ![1, 2048, 1024]⟩
abbrev S2048x1024 : Shape := ⟨2, ![2048, 1024]⟩
abbrev S1024x1024 : Shape := ⟨2, ![1024, 1024]⟩
abbrev S1024 : Shape := ⟨1, ![1024]⟩
abbrev S1x1024x2 : Shape := ⟨3, ![1, 1024, 2]⟩

abbrev nBuf : Space → Nat
  | .hbm => 4
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S2048x16384, .f32⟩
  | .hbm, ⟨2, _⟩ => ⟨S1024x1, .i32⟩
  | .hbm, ⟨3, _⟩ => ⟨S1024x1, .f32⟩
  | .local _ .vmem, ⟨0, _⟩ => ⟨S1024x1, .i32⟩
  | .local _ .vmem, ⟨1, _⟩ => ⟨S1024x1, .f32⟩
  | .local _ .vmem, ⟨2, _⟩ => ⟨S1024x2048, .f32⟩
  | .local _ .vmem, ⟨3, _⟩ => ⟨S2x2048x1024, .f32⟩
  | .local _ .vmem, ⟨4, _⟩ => ⟨S4x1024x2, .f32⟩
  | .local _ .vmem, ⟨5, _⟩ => ⟨S1024x2, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 2 → Nat :=
  let c0_i32_9 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v11 : BitVec 32 := Scalar.muli v2 c8192_i32
  let v16 : BitVec 32 := Scalar.addi v11 c0_i32
  ![0, v16.toNat]
def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_15 : BitVec 32 := 0#32
  let v35 : BitVec 1 := Scalar.cmpi .ne v10 c0_i32_15
  let v36 : BitVec 32 := Scalar.extui v35
  let c0_i32_16 : BitVec 32 := 0#32
  let v37 : BitVec 1 := Scalar.cmpi .ne v36 c0_i32_16
  v37

def k0_dev1 (d0 : Dev nD) : Nat :=
  let c0_i32_242 : BitVec 32 := 0#32
  let c0_i32_239 : BitVec 32 := 0#32
  let c8_i32_241 : BitVec 32 := 8#32
  let v321 : BitVec 32 := Scalar.muli c0_i32_239 c8_i32_241
  let v322 : BitVec 32 := Scalar.addi c0_i32_242 v321
  let c0_i32_240 : BitVec 32 := 0#32
  let c4_i32_243 : BitVec 32 := 4#32
  let v323 : BitVec 32 := Scalar.muli c0_i32_240 c4_i32_243
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_244 : BitVec 32 := 1#32
  let v325 : BitVec 32 := Scalar.muli v8 c1_i32_244
  let v326 : BitVec 32 := Scalar.addi v324 v325
  v326.toNat
def k0_cond2 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_17 : BitVec 32 := 1#32
  let v38 : BitVec 1 := Scalar.cmpi .ne v10 c1_i32_17
  let v39 : BitVec 32 := Scalar.extui v38
  let c0_i32_18 : BitVec 32 := 0#32
  let v40 : BitVec 1 := Scalar.cmpi .ne v39 c0_i32_18
  v40

def k0_dev2 (d0 : Dev nD) : Nat :=
  let c0_i32_242 : BitVec 32 := 0#32
  let c0_i32_239 : BitVec 32 := 0#32
  let c8_i32_241 : BitVec 32 := 8#32
  let v321 : BitVec 32 := Scalar.muli c0_i32_239 c8_i32_241
  let v322 : BitVec 32 := Scalar.addi c0_i32_242 v321
  let c1_i32_240 : BitVec 32 := 1#32
  let c4_i32_243 : BitVec 32 := 4#32
  let v323 : BitVec 32 := Scalar.muli c1_i32_240 c4_i32_243
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_244 : BitVec 32 := 1#32
  let v325 : BitVec 32 := Scalar.muli v8 c1_i32_244
  let v326 : BitVec 32 := Scalar.addi v324 v325
  v326.toNat
def k0_cond3 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_19 : BitVec 32 := 2#32
  let v41 : BitVec 1 := Scalar.cmpi .ne v10 c2_i32_19
  let v42 : BitVec 32 := Scalar.extui v41
  let c0_i32_20 : BitVec 32 := 0#32
  let v43 : BitVec 1 := Scalar.cmpi .ne v42 c0_i32_20
  v43

def k0_dev3 (d0 : Dev nD) : Nat :=
  let c0_i32_242 : BitVec 32 := 0#32
  let c1_i32_239 : BitVec 32 := 1#32
  let c8_i32_241 : BitVec 32 := 8#32
  let v321 : BitVec 32 := Scalar.muli c1_i32_239 c8_i32_241
  let v322 : BitVec 32 := Scalar.addi c0_i32_242 v321
  let c0_i32_240 : BitVec 32 := 0#32
  let c4_i32_243 : BitVec 32 := 4#32
  let v323 : BitVec 32 := Scalar.muli c0_i32_240 c4_i32_243
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_244 : BitVec 32 := 1#32
  let v325 : BitVec 32 := Scalar.muli v8 c1_i32_244
  let v326 : BitVec 32 := Scalar.addi v324 v325
  v326.toNat
def k0_cond4 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32 : BitVec 32 := 3#32
  let v44 : BitVec 1 := Scalar.cmpi .ne v10 c3_i32
  let v45 : BitVec 32 := Scalar.extui v44
  let c0_i32_21 : BitVec 32 := 0#32
  let v46 : BitVec 1 := Scalar.cmpi .ne v45 c0_i32_21
  v46

def k0_dev4 (d0 : Dev nD) : Nat :=
  let c0_i32_242 : BitVec 32 := 0#32
  let c1_i32_239 : BitVec 32 := 1#32
  let c8_i32_241 : BitVec 32 := 8#32
  let v321 : BitVec 32 := Scalar.muli c1_i32_239 c8_i32_241
  let v322 : BitVec 32 := Scalar.addi c0_i32_242 v321
  let c1_i32_240 : BitVec 32 := 1#32
  let c4_i32_243 : BitVec 32 := 4#32
  let v323 : BitVec 32 := Scalar.muli c1_i32_240 c4_i32_243
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_244 : BitVec 32 := 1#32
  let v325 : BitVec 32 := Scalar.muli v8 c1_i32_244
  let v326 : BitVec 32 := Scalar.addi v324 v325
  v326.toNat
def k0_cond5 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_194 : BitVec 32 := 0#32
  let v288 : BitVec 1 := Scalar.cmpi .ne v10 c0_i32_194
  let v289 : BitVec 32 := Scalar.extui v288
  let c0_i32_196 : BitVec 32 := 0#32
  let v290 : BitVec 1 := Scalar.cmpi .ne v289 c0_i32_196
  v290

def k0_off2 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  ![v10.toNat]
def k0_off3 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_244 : BitVec 32 := 0#32
  let c0_i32_245 : BitVec 32 := 0#32
  ![v10.toNat, 0, 0]
def k0_dev5 (d0 : Dev nD) : Nat :=
  let c0_i32_241 : BitVec 32 := 0#32
  let c0_i32_238 : BitVec 32 := 0#32
  let c8_i32_240 : BitVec 32 := 8#32
  let v321 : BitVec 32 := Scalar.muli c0_i32_238 c8_i32_240
  let v322 : BitVec 32 := Scalar.addi c0_i32_241 v321
  let c0_i32_239 : BitVec 32 := 0#32
  let c4_i32_242 : BitVec 32 := 4#32
  let v323 : BitVec 32 := Scalar.muli c0_i32_239 c4_i32_242
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v325 : BitVec 32 := Scalar.muli v8 c1_i32_243
  let v326 : BitVec 32 := Scalar.addi v324 v325
  v326.toNat
def k0_cond6 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_197 : BitVec 32 := 1#32
  let v291 : BitVec 1 := Scalar.cmpi .ne v10 c1_i32_197
  let v292 : BitVec 32 := Scalar.extui v291
  let c0_i32_199 : BitVec 32 := 0#32
  let v293 : BitVec 1 := Scalar.cmpi .ne v292 c0_i32_199
  v293

def k0_off4 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  ![v10.toNat]
def k0_off5 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_244 : BitVec 32 := 0#32
  let c0_i32_245 : BitVec 32 := 0#32
  ![v10.toNat, 0, 0]
def k0_dev6 (d0 : Dev nD) : Nat :=
  let c0_i32_241 : BitVec 32 := 0#32
  let c0_i32_238 : BitVec 32 := 0#32
  let c8_i32_240 : BitVec 32 := 8#32
  let v321 : BitVec 32 := Scalar.muli c0_i32_238 c8_i32_240
  let v322 : BitVec 32 := Scalar.addi c0_i32_241 v321
  let c1_i32_239 : BitVec 32 := 1#32
  let c4_i32_242 : BitVec 32 := 4#32
  let v323 : BitVec 32 := Scalar.muli c1_i32_239 c4_i32_242
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v325 : BitVec 32 := Scalar.muli v8 c1_i32_243
  let v326 : BitVec 32 := Scalar.addi v324 v325
  v326.toNat
def k0_cond7 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_200 : BitVec 32 := 2#32
  let v294 : BitVec 1 := Scalar.cmpi .ne v10 c2_i32_200
  let v295 : BitVec 32 := Scalar.extui v294
  let c0_i32_202 : BitVec 32 := 0#32
  let v296 : BitVec 1 := Scalar.cmpi .ne v295 c0_i32_202
  v296

def k0_off6 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  ![v10.toNat]
def k0_off7 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_244 : BitVec 32 := 0#32
  let c0_i32_245 : BitVec 32 := 0#32
  ![v10.toNat, 0, 0]
def k0_dev7 (d0 : Dev nD) : Nat :=
  let c0_i32_241 : BitVec 32 := 0#32
  let c1_i32_238 : BitVec 32 := 1#32
  let c8_i32_240 : BitVec 32 := 8#32
  let v321 : BitVec 32 := Scalar.muli c1_i32_238 c8_i32_240
  let v322 : BitVec 32 := Scalar.addi c0_i32_241 v321
  let c0_i32_239 : BitVec 32 := 0#32
  let c4_i32_242 : BitVec 32 := 4#32
  let v323 : BitVec 32 := Scalar.muli c0_i32_239 c4_i32_242
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v325 : BitVec 32 := Scalar.muli v8 c1_i32_243
  let v326 : BitVec 32 := Scalar.addi v324 v325
  v326.toNat
def k0_cond8 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_203 : BitVec 32 := 3#32
  let v297 : BitVec 1 := Scalar.cmpi .ne v10 c3_i32_203
  let v298 : BitVec 32 := Scalar.extui v297
  let c0_i32_205 : BitVec 32 := 0#32
  let v299 : BitVec 1 := Scalar.cmpi .ne v298 c0_i32_205
  v299

def k0_off8 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  ![v10.toNat]
def k0_off9 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_244 : BitVec 32 := 0#32
  let c0_i32_245 : BitVec 32 := 0#32
  ![v10.toNat, 0, 0]
def k0_dev8 (d0 : Dev nD) : Nat :=
  let c0_i32_241 : BitVec 32 := 0#32
  let c1_i32_238 : BitVec 32 := 1#32
  let c8_i32_240 : BitVec 32 := 8#32
  let v321 : BitVec 32 := Scalar.muli c1_i32_238 c8_i32_240
  let v322 : BitVec 32 := Scalar.addi c0_i32_241 v321
  let c1_i32_239 : BitVec 32 := 1#32
  let c4_i32_242 : BitVec 32 := 4#32
  let v323 : BitVec 32 := Scalar.muli c1_i32_239 c4_i32_242
  let v324 : BitVec 32 := Scalar.addi v322 v323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v325 : BitVec 32 := Scalar.muli v8 c1_i32_243
  let v326 : BitVec 32 := Scalar.addi v324 v325
  v326.toNat
def k0_cond9 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_206 : BitVec 32 := 0#32
  let v300 : BitVec 1 := Scalar.cmpi .ne v10 c0_i32_206
  let v301 : BitVec 32 := Scalar.extui v300
  let c0_i32_211 : BitVec 32 := 0#32
  let v302 : BitVec 1 := Scalar.cmpi .ne v301 c0_i32_211
  v302

def k0_off10 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_250 : BitVec 32 := 0#32
  let c0_i32_251 : BitVec 32 := 0#32
  ![v10.toNat, 0, 0]
def k0_cond10 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_212 : BitVec 32 := 1#32
  let v303 : BitVec 1 := Scalar.cmpi .ne v10 c1_i32_212
  let v304 : BitVec 32 := Scalar.extui v303
  let c0_i32_217 : BitVec 32 := 0#32
  let v305 : BitVec 1 := Scalar.cmpi .ne v304 c0_i32_217
  v305

def k0_off11 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_250 : BitVec 32 := 0#32
  let c0_i32_251 : BitVec 32 := 0#32
  ![v10.toNat, 0, 0]
def k0_cond11 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_218 : BitVec 32 := 2#32
  let v306 : BitVec 1 := Scalar.cmpi .ne v10 c2_i32_218
  let v307 : BitVec 32 := Scalar.extui v306
  let c0_i32_223 : BitVec 32 := 0#32
  let v308 : BitVec 1 := Scalar.cmpi .ne v307 c0_i32_223
  v308

def k0_off12 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_250 : BitVec 32 := 0#32
  let c0_i32_251 : BitVec 32 := 0#32
  ![v10.toNat, 0, 0]
def k0_cond12 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_224 : BitVec 32 := 3#32
  let v309 : BitVec 1 := Scalar.cmpi .ne v10 c3_i32_224
  let v310 : BitVec 32 := Scalar.extui v309
  let c0_i32_229 : BitVec 32 := 0#32
  let v311 : BitVec 1 := Scalar.cmpi .ne v310 c0_i32_229
  v311

def k0_off13 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_250 : BitVec 32 := 0#32
  let c0_i32_251 : BitVec 32 := 0#32
  ![v10.toNat, 0, 0]
abbrev stage0_0 : Fin 1 → Memref sig .tc .vmem S1024x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x2048 : Shape := ⟨2, ![1024, 2048]⟩
abbrev S2048x32768 : Shape := ⟨2, ![2048, 32768]⟩
abbrev S1024x1 : Shape := ⟨2, ![1024, 1]⟩
abbrev S1024 : Shape := ⟨1, ![1024]⟩
abbrev S1024x32768 : Shape := ⟨2, ![1024, 32768]⟩
abbrev S_ : Shape := ⟨0, ![]⟩
abbrev S1024x2 : Shape := ⟨2, ![1024, 2]⟩

abbrev nBuf : Space → Nat
  | .hbm => 38
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x32768, .f32⟩
  | .hbm, ⟨2, _⟩ => ⟨S1024x1, .i32⟩
  | .hbm, ⟨3, _⟩ => ⟨S1024, .i32⟩
  | .hbm, ⟨4, _⟩ => ⟨S1024x32768, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x32768, .f32⟩
  | .hbm, ⟨9, _⟩ => ⟨S1024x32768, .f32⟩
  | .hbm, ⟨10, _⟩ => ⟨S1024x32768, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024, .f32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S1024x1, .i32⟩
  | .hbm, ⟨33, _⟩ => ⟨S1024x1, .i32⟩
  | .hbm, ⟨34, _⟩ => ⟨S1024x2, .i32⟩
  | .hbm, ⟨35, _⟩ => ⟨S1024, .f32⟩
  | .hbm, ⟨36, _⟩ => ⟨S1024, .f32⟩
  | .hbm, ⟨37, _⟩ => ⟨S1024x1, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.Plane.lean ====
/-
The plane of four devices: who sends to whom, the buffers and semaphores of the launch, and the values one device computes.

The sixteen devices form a 2 × 2 × 4 mesh; device `d` sits at `x = d / 8`, `y = (d / 4) % 2`, `z = d % 4`. The four
devices with one `z` form a plane; a device's place in its plane is `slot d = 2 x + y = d / 4`. Every device reduces its own
8192 columns of the vocabulary to two numbers per row, sends them to the three others of its plane, and adds up the four.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.ValueLayout
public import Idealize.ShloMosaic.Lib.Ring
public import Idealize.ShloMosaic.Lib.Tactic

@[expose] public section

noncomputable section

namespace Cert.KernelIdeal.Plane

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The plane -/

set_option backward.proofsInPublic true in
/-- A device's place in its plane. -/
def slot (c : Dev nD) : Fin 4 := ⟨c.val / 4, by have h : c.val < 16 := c.isLt; omega⟩
set_option backward.proofsInPublic true in
/-- The device at place `p` of `c`'s plane. -/
def peer (c : Dev nD) (p : Fin 4) : Dev nD := ⟨c.val % 4 + 4 * p.val, by show _ < 16; have := p.isLt; omega⟩

theorem slot_peer (c : Dev nD) (p : Fin 4) : slot (peer c p) = p := by revert c p; decide
theorem peer_peer (c : Dev nD) (p q : Fin 4) : peer (peer c p) q = peer c q := by revert c p q; decide
theorem peer_slot (c : Dev nD) : peer c (slot c) = c := by revert c; decide
theorem slot_val (c : Dev nD) : (slot c).val = 2 * (c.val / 8) + ((c.val / 4) % 2) := by revert c; decide

/-- Exchanging the two ends: device `c` and its peer's place, the peer and `c`'s place. -/
def swap : Dev nD × Fin 4 ≃ Dev nD × Fin 4 where
  toFun x := (peer x.1 x.2, slot x.1)
  invFun x := (peer x.1 x.2, slot x.1)
  left_inv := fun ⟨c, p⟩ => by simp only [peer_peer, peer_slot, slot_peer]
  right_inv := fun ⟨c, p⟩ => by simp only [peer_peer, peer_slot, slot_peer]

/-! ## The buffers -/

abbrev xhM : Memref sig .tc .hbm S1024x2048 .f32 := Memref.whole main_arg0
abbrev whM : Memref sig .tc .hbm S2048x16384 .f32 := Memref.whole main_arg1
abbrev lM : Memref sig .tc .vmem S1024x1 .i32 := Memref.whole cc0_stg0_0
abbrev oM : Memref sig .tc .vmem S1024x1 .f32 := Memref.whole cc0_stg1_0
abbrev xM : Memref sig .tc .vmem S1024x2048 .f32 := Memref.whole cc0_scratch0
abbrev wM : Memref sig .tc .vmem S2x2048x1024 .f32 := Memref.whole cc0_scratch1
abbrev rM : Memref sig .tc .vmem S4x1024x2 .f32 := Memref.whole cc0_scratch2
abbrev tM : Memref sig .tc .vmem S1024x2 .f32 := Memref.whole cc0_scratch3

/-- The receive buffer's window at offset `off`, its unit axis dropped. -/
abbrev rW (off : Fin 3 → ℕ) (inb : ∀ a, off a + S1x1024x2.size a ≤ S4x1024x2.size a) : Memref sig .tc .vmem S1024x2 .f32 :=
  (rM.slice (Rect.unit (s := S4x1024x2) off S1x1024x2.size inb) (fun _ => rfl)).squeeze S1024x2 squeezes_S1x1024x2_S1024x2
theorem rInb (p : Fin 4) : ∀ a, (![p.val, 0, 0] : Fin 3 → ℕ) a + S1x1024x2.size a ≤ S4x1024x2.size a := by revert p; decide
/-- Its slot `p`. -/
abbrev rSlot (p : Fin 4) : Memref sig .tc .vmem S1024x2 .f32 := rW ![p.val, 0, 0] (rInb p)

/-- The weight buffer's window at offset `off`, its unit axis dropped. -/
abbrev wW (off : Fin 3 → ℕ) (inb : ∀ a, off a + S1x2048x1024.size a ≤ S2x2048x1024.size a) : Memref sig .tc .vmem S2048x1024 .f32 :=
  (wM.slice (Rect.unit (s := S2x2048x1024) off S1x2048x1024.size inb) (fun _ => rfl)).squeeze S2048x1024 squeezes_S1x2048x1024_S2048x1024
theorem wInb (s : Fin 2) : ∀ a, (![s.val, 0, 0] : Fin 3 → ℕ) a + S1x2048x1024.size a ≤ S2x2048x1024.size a := by revert s; decide
/-- Its slot `s`. -/
abbrev wSlot (s : Fin 2) : Memref sig .tc .vmem S2048x1024 .f32 := wW ![s.val, 0, 0] (wInb s)

/-- The weights' window at offset `off`. -/
abbrev hW (off : Fin 2 → ℕ) (inb : ∀ a, off a + S2048x1024.size a ≤ S2048x16384.size a) : Memref sig .tc .hbm S2048x1024 .f32 :=
  whM.slice (Rect.unit (s := S2048x16384) off S2048x1024.size inb) (fun _ => rfl)

/-! ## The semaphores -/

/-- The runtime's barrier semaphore. -/
abbrev barS : Sem sig := (SemArray.scalar (sig.barrier 0 rfl) : Sems sig S_).sem
abbrev xS : DmaSem sig := cc0_scratch4.sem
abbrev wSem (off : Fin 1 → ℕ) (inb : ∀ a, off a + S1.size a ≤ S2.size a) : DmaSem sig :=
  ((cc0_scratch5.slice (Rect.unit (s := S2) off S1.size inb)).squeeze S_ squeezes_S1_S_).sem
abbrev sSem (off : Fin 1 → ℕ) (inb : ∀ a, off a + S1.size a ≤ S4.size a) : DmaSem sig :=
  ((cc0_scratch6.slice (Rect.unit (s := S4) off S1.size inb)).squeeze S_ squeezes_S1_S_).sem
abbrev rSem (off : Fin 1 → ℕ) (inb : ∀ a, off a + S1.size a ≤ S4.size a) : DmaSem sig :=
  ((cc0_scratch7.slice (Rect.unit (s := S4) off S1.size inb)).squeeze S_ squeezes_S1_S_).sem
theorem semInb2 (s : Fin 2) : ∀ a, (![s.val] : Fin 1 → ℕ) a + S1.size a ≤ S2.size a := by revert s; decide
theorem semInb4 (p : Fin 4) : ∀ a, (![p.val] : Fin 1 → ℕ) a + S1.size a ≤ S4.size a := by revert p; decide
abbrev wS (s : Fin 2) : DmaSem sig := wSem ![s.val] (semInb2 s)
abbrev sendS (p : Fin 4) : DmaSem sig := sSem ![p.val] (semInb4 p)
abbrev recvS (p : Fin 4) : DmaSem sig := rSem ![p.val] (semInb4 p)

abbrev barCell (c : Dev nD) : GSem nD τ sig := ((c : Thread nD τ), .reg barS)
abbrev sendCell (c : Dev nD) (p : Fin 4) : GSem nD τ sig := ((c : Thread nD τ), .dma (sendS p))
abbrev recvCell (c : Dev nD) (p : Fin 4) : GSem nD τ sig := ((c : Thread nD τ), .dma (recvS p))

theorem sendS_inj {p q : Fin 4} (h : (SemLoc.dma (sendS p) : SemLoc sig) = .dma (sendS q)) : p = q := by
  revert p q; decide
theorem recvS_inj {p q : Fin 4} (h : (SemLoc.dma (recvS p) : SemLoc sig) = .dma (recvS q)) : p = q := by
  revert p q; decide
theorem send_ne_recv (p q : Fin 4) : (SemLoc.dma (sendS p) : SemLoc sig) ≠ .dma (recvS q) := by revert p q; decide

/-- What a transfer of one device's two columns is worth on a semaphore. -/
abbrev N : ℕ := tM.view.dmaCredit
theorem N_pos : 0 < N := View.dmaCredit_pos _ (by decide)
theorem rW_credit (off inb) : (rW off inb).view.dmaCredit = N := rfl

/-! ## The element sets of the slots -/

theorem mem_rSlot (p : Fin 4) (i : S4x1024x2.Idx) : i ∈ (rSlot p).view.set ↔ (i 0).val = p.val := by
  rw [show (rSlot p).view.set = ((View.whole cc0_scratch2).slice (Rect.unit (s := S4x1024x2) ![p.val, 0, 0] S1x1024x2.size (rInb p))).set
    from View.set_reshape _ _]
  refine ValueKit.mem_set_slice_whole_iff cc0_scratch2 _ i (Rect.mem_set_unit.trans ?_)
  have h1 : (i 1).val < 1024 := (i 1).isLt
  have h2 : (i 2).val < 2 := (i 2).isLt
  constructor
  · intro h
    have h0 := h 0
    change p.val ≤ (i 0).val ∧ (i 0).val < p.val + 1 at h0
    omega
  · intro h a
    fin_cases a
    · show p.val ≤ (i 0).val ∧ (i 0).val < p.val + 1
      omega
    · show 0 ≤ (i 1).val ∧ (i 1).val < 0 + 1024
      omega
    · show 0 ≤ (i 2).val ∧ (i 2).val < 0 + 2
      omega

theorem mem_wSlot (s : Fin 2) (i : S2x2048x1024.Idx) : i ∈ (wSlot s).view.set ↔ (i 0).val = s.val := by
  rw [show (wSlot s).view.set = ((View.whole cc0_scratch1).slice (Rect.unit (s := S2x2048x1024) ![s.val, 0, 0] S1x2048x1024.size (wInb s))).set
    from View.set_reshape _ _]
  refine ValueKit.mem_set_slice_whole_iff cc0_scratch1 _ i (Rect.mem_set_unit.trans ?_)
  have h1 : (i 1).val < 2048 := (i 1).isLt
  have h2 : (i 2).val < 1024 := (i 2).isLt
  constructor
  · intro h
    have h0 := h 0
    change s.val ≤ (i 0).val ∧ (i 0).val < s.val + 1 at h0
    omega
  · intro h a
    fin_cases a
    · show s.val ≤ (i 0).val ∧ (i 0).val < s.val + 1
      omega
    · show 0 ≤ (i 1).val ∧ (i 1).val < 0 + 2048
      omega
    · show 0 ≤ (i 2).val ∧ (i 2).val < 0 + 1024
      omega

theorem rSlot_disjoint (p q : Fin 4) (h : p ≠ q) : Disjoint (rSlot p).view.set (rSlot q).view.set :=
  Finset.disjoint_left.mpr fun i hi hj => h (Fin.ext (((mem_rSlot p i).mp hi).symm.trans ((mem_rSlot q i).mp hj)))
/-- Slot `p` as elements of device `c`'s receive buffer. -/
abbrev rSet (c : Dev nD) (p : Fin 4) : Finset (Idx ((c : Thread nD τ).loc cc0_scratch2)) := (rSlot p).view.set
/-- Slot `s` as elements of device `c`'s weight buffer. -/
abbrev wSet (c : Dev nD) (s : Fin 2) : Finset (Idx ((c : Thread nD τ).loc cc0_scratch1)) := (wSlot s).view.set
theorem rSlot_cover (c : Dev nD) : (Finset.univ : Finset (Fin 4)).biUnion (rSet c) = Finset.univ :=
  Finset.eq_univ_iff_forall.mpr fun i => Finset.mem_biUnion.mpr ⟨⟨((i : S4x1024x2.Idx) 0).val, ((i : S4x1024x2.Idx) 0).isLt⟩, Finset.mem_univ _, (mem_rSlot _ i).mpr rfl⟩
theorem wSlot_disjoint (p q : Fin 2) (h : p ≠ q) : Disjoint (wSlot p).view.set (wSlot q).view.set :=
  Finset.disjoint_left.mpr fun i hi hj => h (Fin.ext (((mem_wSlot p i).mp hi).symm.trans ((mem_wSlot q i).mp hj)))
theorem wSlot_cover (c : Dev nD) : (Finset.univ : Finset (Fin 2)).biUnion (wSet c) = Finset.univ :=
  Finset.eq_univ_iff_forall.mpr fun i => Finset.mem_biUnion.mpr ⟨⟨((i : S2x2048x1024.Idx) 0).val, ((i : S2x2048x1024.Idx) 0).isLt⟩, Finset.mem_univ _, (mem_wSlot _ i).mpr rfl⟩

/-- Element `(a, b)` of slot `p` is element `(p, a, b)` of the receive buffer. -/
theorem rSlot_emb (p : Fin 4) (a : Fin 1024) (b : Fin 2) : (rSlot p).view.emb (ix2 a b) = (ix3 p a b : S4x1024x2.Idx) := by
  have h := reshapeEquiv_ix2_1ab (a := 1024) (b := 2) squeezes_S1x1024x2_S1024x2.numel_eq a b
  have hv : (rSlot p).view.emb (ix2 a b) = ((View.whole cc0_scratch2).slice (Rect.unit (s := S4x1024x2) ![p.val, 0, 0] S1x1024x2.size (rInb p))).emb
      (Shape.reshapeEquiv squeezes_S1x1024x2_S1024x2.numel_eq (ix2 a b)) := rfl
  rw [hv, h]
  funext d
  apply Fin.ext
  refine (ValueKit.view_emb_slice_whole_unit_val cc0_scratch2 _ _ _ _ d).trans ?_
  fin_cases d
  · show p.val + 0 = p.val
    omega
  · show 0 + a.val = a.val
    omega
  · show 0 + b.val = b.val
    omega

end Cert.KernelIdeal.Plane

end
-- ==== Proof.Values.lean ====
/-
What one device computes, as functions of the arrays it is given: the logits of one chunk of columns, the two running
columns (sum of exponentials, logit of the label), what it sends, what its receive buffer holds at the end, its result.
-/
module

public import proofs.«01_k».proof.Proof.Plane

@[expose] public section

noncomputable section

namespace Cert.KernelIdeal.Plane

open Cert.KernelIdeal Cert.KernelIdeal.Gen

open Idealize.ShloMosaic
open Idealize.ShloMosaic.TcCoe
open Idealize.ShloMosaic.ValueIdx
open Idealize.SL Idealize.SL.RA Idealize.SL.BI

variable {F : FTy → Type} [FloatOps F]

/-! ## One chunk -/

/-- The logits of a chunk: the rows of `x` against the chunk's 1024 columns. -/
def logit (x : Vec F S1024x2048 .f32) (w : Vec F S2048x1024 .f32) : FVec F S1024x1024 .f32 :=
  matmul dot_S1024x2048_S2048x1024_S1024x1024_1_0_0_1_n_n none x w (constant S1024x1024 .f32 0x00000000#32)

/-- The running sum of exponentials, a chunk's added. -/
def sStep (s : FVec F S1024x1 .f32) (z : FVec F S1024x1024 .f32) : FVec F S1024x1 .f32 :=
  addf s (shapeCast S1024x1 (multiReduction .add [1] S1024 (exp z) 0x00000000#32 reduces_S1024x1024_S1024 (.inl rfl) rfl) shapeCasts_S1024_S1024x1)

/-- The running label logit, a chunk's added: the logit where the column (`b + o` and the lane) is the row's label, else zero. -/
def gStep (b o : BitVec 32) (g : FVec F S1024x1 .f32) (l : Vec F S1024x1 .i32) (z : FVec F S1024x1024 .f32) : FVec F S1024x1 .f32 :=
  addf g (shapeCast S1024x1 (multiReduction .add [1] S1024
    (select (cmpi .eq (iota .tc S1024x1024 32 [1] iota_S1024x1024_d1_w32)
        (broadcastTo S1024x1024 (subi l (broadcast S1024x1 (Scalar.addi b o))) broadcasts_S1024x1_S1024x1024))
      z (broadcast S1024x1024 (Scalar.ofBits .f32 0x00000000#32 : F .f32)))
    0x00000000#32 reduces_S1024x1024_S1024 (.inl rfl) rfl) shapeCasts_S1024_S1024x1)

/-! ## All chunks of a device -/

/-- Device `c`'s `j`-th chunk of its half of the weights' columns. -/
def chunk (c : Dev nD) (W : (main_arg1 : Ref sig .tc).ty.Contents (Elt F)) (j : Fin 8) : Vec F S2048x1024 .f32 :=
  (hW (k0_off1 c (BitVec.ofNat 32 (1024 * j.val))) (k0_off1_inb c j)).view.read (Elt F) W

/-- The first vocabulary column of device `c`, as the program computes it. -/
def base (c : Dev nD) : BitVec 32 :=
  Scalar.addi (Scalar.muli (Scalar.remsi (Scalar.divsi (Dev.word c) 4#32) 2#32) 16384#32)
    (Scalar.muli (Scalar.remsi (Scalar.divsi (Dev.word c) 8#32) 2#32) 8192#32)

/-- The sum of exponentials after `n` chunks. -/
def sAt (c : Dev nD) (x : Vec F S1024x2048 .f32) (W : (main_arg1 : Ref sig .tc).ty.Contents (Elt F)) : ℕ → FVec F S1024x1 .f32
  | 0 => k0_pay3
  | n + 1 => sStep (sAt c x W n) (logit x (chunk c W (Fin.ofNat 8 n)))

/-- The label logit after `n` chunks. -/
def gAt (c : Dev nD) (x : Vec F S1024x2048 .f32) (W : (main_arg1 : Ref sig .tc).ty.Contents (Elt F)) (l : Vec F S1024x1 .i32) : ℕ → FVec F S1024x1 .f32
  | 0 => k0_pay4
  | n + 1 => gStep (base c) (BitVec.ofNat 32 (1024 * n)) (gAt c x W l n) l (logit x (chunk c W (Fin.ofNat 8 n)))

/-- The two columns a device sends. -/
def stats (c : Dev nD) (x : Vec F S1024x2048 .f32) (W : (main_arg1 : Ref sig .tc).ty.Contents (Elt F)) (l : Vec F S1024x1 .i32) : Vec F S1024x2 .f32 :=
  fun i => if (i 1).val = 0 then sAt c x W 8 (ix2 (i 0) (0 : Fin 1)) else gAt c x W l 8 (ix2 (i 0) (0 : Fin 1))

/-- The receive buffer at the end: its own slot as it was cleared, every other the columns of the device at that place. -/
def recvAt (st : Dev nD → Vec F S1024x2 .f32) (c : Dev nD) : Vec F S4x1024x2 .f32 :=
  fun i => if (i 0).val = (slot c).val then k0_pay2 i else st (peer c ⟨(i 0).val, (i 0).isLt⟩) (ix2 (i 1) (i 2))

/-- A device's result. -/
def outOf (st : Dev nD → Vec F S1024x2 .f32) (c : Dev nD) : Vec F S1024x1 .f32 := k0_pay1 (recvAt st c) (st c)

/-! ## A chunk as the weight buffer's loads read it: with a leading unit axis -/

/-- A chunk under a leading unit axis. -/
def slab (z : Vec F S2048x1024 .f32) : Vec F S1x2048x1024 .f32 := fun i => z (ix2 (i 1) (i 2))

theorem slab_shapeCast (v : Vec F S1x2048x1024 .f32) (h : S1x2048x1024.ShapeCasts S2048x1024) : slab (shapeCast S2048x1024 v h) = v := by
  funext i
  unfold slab
  refine shapeCast_apply v h _ i ?_
  rw [Shape.rowMajor_val_three, Shape.rowMajor_val_two]
  have h0 : (i 0).val < 1 := (i 0).isLt
  show ((i 0).val * 2048 + (i 1).val) * 1024 + (i 2).val = (i 1).val * 1024 + (i 2).val
  omega

theorem shapeCast_slab (z : Vec F S2048x1024 .f32) (h : S1x2048x1024.ShapeCasts S2048x1024) : shapeCast S2048x1024 (slab z) h = z := by
  funext i
  rw [shapeCast_apply (slab z) h i (ix3 (0 : Fin 1) (i 0) (i 1)) (by
    rw [Shape.rowMajor_val_three, Shape.rowMajor_val_two]
    show ((0 * 2048 + (i 0).val) * 1024 + (i 1).val) = (i 0).val * 1024 + (i 1).val
    omega)]
  unfold slab
  refine congrArg z (funext fun d => ?_)
  fin_cases d <;> rfl

/-- The same where the product reads it, as floats. -/
theorem shapeCast_slab_float (z : Vec F S2048x1024 .f32) (h : S1x2048x1024.ShapeCasts S2048x1024) :
    (shapeCast (α := F .f32) S2048x1024 (slab z) h : FVec F S2048x1024 .f32) = z := shapeCast_slab z h

/-- A load of slot `s` of the weight buffer reads the slot under a leading unit axis. -/
theorem load_wSlot (s : Fin 2) (inb) (f : (cc0_scratch1 : Ref sig .tc).ty.Contents (Elt F)) :
    wM.view.readAt (Elt F) (Rect.unit (s := S2x2048x1024) ![s.val, 0, 0] S1x2048x1024.size inb).toLoadRect f
      = slab ((wSlot s).view.read (Elt F) f) := by
  rw [Memref.read_squeeze_slice wM (Rect.unit (s := S2x2048x1024) ![s.val, 0, 0] S1x2048x1024.size inb) (fun _ => rfl)
    squeezes_S1x2048x1024_S2048x1024 shapeCasts_S1x2048x1024_S2048x1024 f]
  exact (slab_shapeCast _ _).symm

/-! ## The receive buffer's slots -/

/-- What slot `p` of the receive buffer holds at the end, for another device's place `p`. -/
theorem recvAt_slot (st : Dev nD → Vec F S1024x2 .f32) (c : Dev nD) (p : Fin 4) (hp : p ≠ slot c) (a : Fin 1024) (b : Fin 2) :
    recvAt st c (ix3 p a b) = st (peer c p) (ix2 a b) := by
  unfold recvAt
  rw [if_neg (fun h => hp (Fin.ext h))]

/-- An element of slot `p` written with another device's columns holds what `recvAt` says. -/
theorem recvAt_written (st : Dev nD → Vec F S1024x2 .f32) (c : Dev nD) (p : Fin 4) (hp : p ≠ slot c)
    (f : (cc0_scratch2 : Ref sig .tc).ty.Contents (Elt F)) (i : S4x1024x2.Idx) (hi : i ∈ (rSlot p).view.set) :
    (rSlot p).view.write (Elt F) f (st (peer c p)) Finset.univ i = recvAt st c i := by
  have h0 := (mem_rSlot p i).mp hi
  have hie : i = (rSlot p).view.emb (ix2 (i 1) (i 2)) := by
    refine Eq.trans ?_ (rSlot_emb p (i 1) (i 2)).symm
    funext d; fin_cases d
    · exact Fin.ext h0
    · rfl
    · rfl
  have hr : (rSlot p).view.write (Elt F) f (st (peer c p)) Finset.univ ((rSlot p).view.emb (ix2 (i 1) (i 2))) = st (peer c p) (ix2 (i 1) (i 2)) :=
    View.read_write_of_mem (v := (rSlot p).view) f (st (peer c p)) (x := ix2 (i 1) (i 2)) (Finset.mem_univ _)
  rw [← hie] at hr
  rw [hr]
  have h := recvAt_slot st c p hp (i 1) (i 2)
  rw [show (ix3 p (i 1) (i 2) : S4x1024x2.Idx) = i from (rSlot_emb p (i 1) (i 2)).symm.trans hie.symm] at h
  exact h.symm

/-- An element of the own slot as cleared holds what `recvAt` says. -/
theorem recvAt_own (st : Dev nD → Vec F S1024x2 .f32) (c : Dev nD) (i : S4x1024x2.Idx) (hi : i ∈ (rSlot (slot c)).view.set) :
    (k0_pay2 (F := F)) i = recvAt st c i := by
  unfold recvAt
  rw [if_pos ((mem_rSlot _ i).mp hi)]

/-! ## The two column stores -/

abbrev col0 : Rect S1024x2 := Rect.unit (s := S1024x2) ![0, 0] S1024x1.size inb_S1024x2_S1024x1_0_0
abbrev col1 : Rect S1024x2 := Rect.unit (s := S1024x2) ![0, 1] S1024x1.size inb_S1024x2_S1024x1_0_1

theorem col0_emb (a : Fin 1024) : (tM.access col0 : View sig .tc _ _ _).emb (ix2 a (0 : Fin 1)) = (ix2 a (0 : Fin 2) : S1024x2.Idx) := by
  funext d
  apply Fin.ext
  refine (ValueKit.view_emb_slice_whole_unit_val cc0_scratch3 _ _ _ _ d).trans ?_
  fin_cases d
  · show 0 + a.val = a.val
    omega
  · rfl
theorem col1_emb (a : Fin 1024) : (tM.access col1 : View sig .tc _ _ _).emb (ix2 a (0 : Fin 1)) = (ix2 a (1 : Fin 2) : S1024x2.Idx) := by
  funext d
  apply Fin.ext
  refine (ValueKit.view_emb_slice_whole_unit_val cc0_scratch3 _ _ _ _ d).trans ?_
  fin_cases d
  · show 0 + a.val = a.val
    omega
  · rfl

/-- Storing one column and then the other leaves the two columns. -/
theorem write_cols (f : (cc0_scratch3 : Ref sig .tc).ty.Contents (Elt F)) (v w : Vec F S1024x1 .f32) :
    (tM.access col1 : View sig .tc _ _ _).write (Elt F) ((tM.access col0 : View sig .tc _ _ _).write (Elt F) f v Finset.univ) w Finset.univ
      = (fun i : S1024x2.Idx => if (i 1).val = 0 then v (ix2 (i 0) (0 : Fin 1)) else w (ix2 (i 0) (0 : Fin 1))) := by
  funext (i : S1024x2.Idx)
  have h1 : (i 1).val < 2 := (i 1).isLt
  by_cases h : (i 1).val = 0
  · rw [if_pos h]
    have hi : i = (tM.access col0 : View sig .tc _ _ _).emb (ix2 (i 0) (0 : Fin 1)) := by
      refine Eq.trans ?_ (col0_emb (i 0)).symm
      funext d; fin_cases d
      · rfl
      · exact Fin.ext h
    rw [View.write_of_not_mem (v := (tM.access col1 : View sig .tc _ _ _))]
    · have hr : (tM.access col0 : View sig .tc _ _ _).write (Elt F) f v Finset.univ ((tM.access col0 : View sig .tc _ _ _).emb (ix2 (i 0) (0 : Fin 1))) = v (ix2 (i 0) (0 : Fin 1)) :=
        View.read_write_of_mem (v := (tM.access col0 : View sig .tc _ _ _)) f v (x := ix2 (i 0) (0 : Fin 1)) (Finset.mem_univ _)
      rw [← hi] at hr
      exact hr
    · intro hm
      have hm' : i ∈ ((View.whole cc0_scratch3).slice col1).set := hm
      rw [View.set_slice_whole] at hm'
      have h2 := (Rect.mem_set_unit.mp hm') 1
      change 1 ≤ (i 1).val ∧ _ at h2
      omega
  · rw [if_neg h]
    have hi : i = (tM.access col1 : View sig .tc _ _ _).emb (ix2 (i 0) (0 : Fin 1)) := by
      refine Eq.trans ?_ (col1_emb (i 0)).symm
      funext d; fin_cases d
      · rfl
      · exact Fin.ext (show (i 1).val = 1 by omega)
    have hr : (tM.access col1 : View sig .tc _ _ _).write (Elt F) ((tM.access col0 : View sig .tc _ _ _).write (Elt F) f v Finset.univ) w Finset.univ ((tM.access col1 : View sig .tc _ _ _).emb (ix2 (i 0) (0 : Fin 1))) = w (ix2 (i 0) (0 : Fin 1)) :=
      View.read_write_of_mem (v := (tM.access col1 : View sig .tc _ _ _)) _ w (x := ix2 (i 0) (0 : Fin 1)) (Finset.mem_univ _)
    rw [← hi] at hr
    exact hr

/-! ## The printed payloads are these steps -/

section Steps
variable (c : Dev nD) (x : Vec F S1024x2048 .f32) (W : (main_arg1 : Ref sig .tc).ty.Contents (Elt F)) (l : Vec F S1024x1 .i32)

/-- The sum of exponentials the program stores, its eight chunks folded into the printed payloads, is `sAt` at eight. -/
theorem stored_s (w : Fin 8 → Vec F S1x2048x1024 .f32) (hw : ∀ j, w j = slab (chunk c W j)) :
    k0_pay28 (k0_pay25 (k0_pay21 (k0_pay18 (k0_pay13 (k0_pay10 (k0_pay6 k0_pay3 x (w 0)) x (k0_pay8 (w 1)) (constant S1024x1024 .f32 0x00000000#32))
      (k0_pay12 x (w 2))) (k0_pay15 x (w 3)) x (w 4)) x (w 5)) x (w 6)) x (w 7) = sAt c x W 8 := by
  obtain rfl : w = fun j => slab (chunk c W j) := funext hw
  simp only [k0_pay28, k0_pay27, k0_pay25, k0_pay24, k0_pay21, k0_pay20, k0_pay18, k0_pay17, k0_pay15, k0_pay13, k0_pay12, k0_pay10, k0_pay9, k0_pay8, k0_pay6, k0_pay5,
    shapeCast_slab_float, shapeCast_self]
  rfl

/-- The label logit likewise is `gAt` at eight. -/
theorem stored_g (w : Fin 8 → Vec F S1x2048x1024 .f32) (hw : ∀ j, w j = slab (chunk c W j)) :
    k0_pay29 (base c) (iota .tc S1024x1024 32 [1] iota_S1024x1024_d1_w32)
      (k0_pay26 (base c) (iota .tc S1024x1024 32 [1] iota_S1024x1024_d1_w32)
        (k0_pay19 (base c) (iota .tc S1024x1024 32 [1] iota_S1024x1024_d1_w32)
          (k0_pay16 (base c) (iota .tc S1024x1024 32 [1] iota_S1024x1024_d1_w32)
            (k0_pay14 (base c) (iota .tc S1024x1024 32 [1] iota_S1024x1024_d1_w32)
              (k0_pay11 (base c) (iota .tc S1024x1024 32 [1] iota_S1024x1024_d1_w32)
                (k0_pay7 (base c) (iota .tc S1024x1024 32 [1] iota_S1024x1024_d1_w32) k0_pay4 x (w 0) l)
                x (k0_pay8 (w 1)) (constant S1024x1024 .f32 0x00000000#32) l)
              (k0_pay12 x (w 2)) l)
            (k0_pay15 x (w 3)) l)
          (k0_pay17 x (w 4)) l)
        (k0_pay20 x (w 5)) (k0_pay22 l) (k0_pay23 (base c)) x (w 6) l)
      x (w 7) l = gAt c x W l 8 := by
  obtain rfl : w = fun j => slab (chunk c W j) := funext hw
  simp only [k0_pay29, k0_pay27, k0_pay26, k0_pay24, k0_pay23, k0_pay22, k0_pay20, k0_pay19, k0_pay17, k0_pay16, k0_pay15, k0_pay14, k0_pay12, k0_pay11, k0_pay9, k0_pay8, k0_pay7, k0_pay5,
    shapeCast_slab_float, shapeCast_self]
  rfl

end Steps

end Cert.KernelIdeal.Plane

end
-- ==== Proof.Protocol.lean ====
/-
The protocol of one plane: what each semaphore's units hand over, what each device owes the others, in which order waits
may block on one another, and the ghost state a device's run starts from.

Device `c` signals the barrier of each of the three others of its plane, and with the signal hands over its receive slot of
that device. After waiting for three units it owns its own slot on all three, sends its columns into them, and waits for the
three transfers into its own receive buffer.
-/
module

public import proofs.«01_k».proof.Proof.Values
public import Idealize.ShloMosaic.Lib.Transfers

@[expose] public section

noncomputable section

namespace Cert.KernelIdeal.Plane

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the plane's rounds (a duty is a place), the local transfers' counters -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The plane's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
omit [FloatOps F] in
instance ER_landsIn : (ER : Emb UB 𝕄).LandsIn (upEmb : UEmb _ 𝕄) := by unfold ER; infer_instance

abbrev 𝒱₀ : Variants := Variants.none

/-! ## A resource held for every place but one's own -/

/-- `P`, unless `p` is the place `s`. -/
def but (s p : Fin 4) (P : sProp 𝕄) : sProp 𝕄 := if p = s then iprop(emp) else P

omit [FloatOps F] in
theorem but_self (s : Fin 4) (P : sProp 𝕄) : but s s P = iprop(emp) := if_pos rfl
omit [FloatOps F] in
theorem but_ne {s p : Fin 4} (h : p ≠ s) (P : sProp 𝕄) : but s p P = P := if_neg h

omit [FloatOps F] in
/-- Something for every place but `s`, read as something for every place. -/
theorem erase_but (s : Fin 4) (Φ : Fin 4 → sProp 𝕄) :
    bigSep (Finset.univ.erase s) Φ ⊢ bigSep Finset.univ (fun p => but s p (Φ p)) := by
  rw [BI.bigSep_erase (Φ := fun p => but s p (Φ p)) (Finset.mem_univ s), but_self]
  refine BIBase.Entails.trans ?_ (emp_sep (PROP := sProp 𝕄)).2
  refine bigSep_mono fun p hp => ?_
  rw [but_ne (Finset.ne_of_mem_erase hp)]
  exact BI.Entails.refl _

omit [FloatOps F] in
theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  rfl

/-! ## What is handed over -/

/-- Slot `p` of device `c`'s receive buffer, at the contents `f`. -/
def slotPts (c : Dev nD) (p : Fin 4) (f : Buf (Elt F) ((c : Thread nD τ).loc cc0_scratch2)) : sProp 𝕄 :=
  ((c : Thread nD τ).loc cc0_scratch2) ↦[rSet c p]{fullShare} f
/-- The same at contents left open. -/
def slotAny (c : Dev nD) (p : Fin 4) : sProp 𝕄 := iprop(∃ f, slotPts c p f)
/-- The share of device `c`'s two columns its send to place `p` reads. -/
def statPts (c : Dev nD) (p : Fin 4) (f : Buf (Elt F) ((c : Thread nD τ).loc cc0_scratch3)) : sProp 𝕄 :=
  tM.view.loc (c : Thread nD τ) ↦[tM.view.set]{Transfers.shareTok fullShare 4 p} f

omit [FloatOps F] in
instance slotPts_storable (c : Dev nD) (p : Fin 4) (f) : BI.Storable (upEmb : UEmb _ 𝕄) (slotPts (F := F) c p f) := by unfold slotPts; infer_instance
omit [FloatOps F] in
instance slotAny_storable (c : Dev nD) (p : Fin 4) : BI.Storable (upEmb : UEmb _ 𝕄) (slotAny (F := F) c p) := by unfold slotAny; infer_instance
omit [FloatOps F] in
instance statPts_storable (c : Dev nD) (p : Fin 4) (f) : BI.Storable (upEmb : UEmb _ 𝕄) (statPts (F := F) c p f) := by unfold statPts; infer_instance

/-- What the signal from place `p` hands `c`: `c`'s slot on that device, and that its receive cell is at round 0. -/
def barPay (c : Dev nD) (p : Fin 4) : sProp 𝕄 :=
  iprop(slotAny (peer c p) (slot c) ∗ reached ER (recvCell (peer c p) (slot c)) 0)

/-! ## The schedule -/

/-- The place a send semaphore belongs to, -/
def sendIx (sm : SemLoc sig) : Option (Fin 4) := (List.finRange 4).find? fun p => sm = .dma (sendS p)
/-- and a receive semaphore. -/
def recvIx (sm : SemLoc sig) : Option (Fin 4) := (List.finRange 4).find? fun p => sm = .dma (recvS p)

set_option backward.proofsInPublic true in
theorem sendIx_send (p : Fin 4) : sendIx (.dma (sendS p)) = some p := by revert p; decide
set_option backward.proofsInPublic true in
theorem sendIx_recv (p : Fin 4) : sendIx (.dma (recvS p)) = none := by revert p; decide
set_option backward.proofsInPublic true in
theorem recvIx_recv (p : Fin 4) : recvIx (.dma (recvS p)) = some p := by revert p; decide
set_option backward.proofsInPublic true in
theorem sendIx_bar : sendIx (.reg barS) = none := by decide
set_option backward.proofsInPublic true in
theorem recvIx_bar : recvIx (.reg barS) = none := by decide

/-- One round, round 0. A barrier cell has a duty of one unit for every other place; a send or receive cell for another
    place one duty of the transfer's credit; the cells for the own place none. -/
def planeRd (st : Dev nD → Vec F S1024x2 .f32) : Rounds.Schedule (GSem nD τ sig) (Fin 4) 𝕄 where
  duties g r := if r = 0 then
      (match sendIx g.2 with
        | some p => if p = slot g.1.1 then ∅ else {0}
        | none => match recvIx g.2 with
          | some p => if p = slot g.1.1 then ∅ else {0}
          | none => if g.2 = .reg barS then Finset.univ.erase (slot g.1.1) else ∅)
    else ∅
  unitless _ := False
  amount g _ _ := if g.2 = .reg barS then 1 else N
  payload g _ d := match sendIx g.2 with
    | some p => statPts g.1.1 p (st g.1.1)
    | none => match recvIx g.2 with
      | some p => slotPts g.1.1 p (recvAt st g.1.1)
      | none => if g.2 = .reg barS then barPay g.1.1 d else iprop(emp)
  amount_pos g _ _ _ := by
    by_cases h : g.2 = .reg barS
    · rw [if_pos h]; exact Nat.one_pos
    · rw [if_neg h]; exact N_pos

instance planeRd_payload_storable (st : Dev nD → Vec F S1024x2 .f32) (g : GSem nD τ sig) (r : ℕ) (d : Fin 4) :
    BI.Storable (upEmb : UEmb _ 𝕄) ((planeRd (F := F) st).payload g r d) := by
  show BI.Storable upEmb (match sendIx g.2 with
    | some p => statPts g.1.1 p (st g.1.1)
    | none => match recvIx g.2 with
      | some p => slotPts g.1.1 p (recvAt st g.1.1)
      | none => if g.2 = .reg barS then barPay g.1.1 d else iprop(emp))
  unfold barPay
  (repeat' split) <;> infer_instance

section Sched
variable (st : Dev nD → Vec F S1024x2 .f32) (c : Dev nD) (p : Fin 4)

theorem duties_bar : (planeRd (F := F) st).duties (barCell c) 0 = Finset.univ.erase (slot c) := by
  dsimp only [planeRd]; rw [if_pos rfl, sendIx_bar, recvIx_bar]; exact if_pos rfl
theorem duties_send : (planeRd (F := F) st).duties (sendCell c p) 0 = if p = slot c then ∅ else {0} := by
  dsimp only [planeRd]; rw [if_pos rfl, sendIx_send]
theorem duties_recv : (planeRd (F := F) st).duties (recvCell c p) 0 = if p = slot c then ∅ else {0} := by
  dsimp only [planeRd]; rw [if_pos rfl, sendIx_recv, recvIx_recv]
theorem duties_later (g : GSem nD τ sig) : ∀ r, 1 ≤ r → (planeRd (F := F) st).duties g r = ∅ :=
  fun r hr => by dsimp only [planeRd]; rw [if_neg (by omega)]

theorem amount_bar (d : Fin 4) : (planeRd (F := F) st).amount (barCell c) 0 d = 1 := by dsimp only [planeRd]; exact if_pos rfl
theorem amount_send (d : Fin 4) : (planeRd (F := F) st).amount (sendCell c p) 0 d = N := by
  dsimp only [planeRd]; exact if_neg fun h => by cases h
theorem amount_recv (d : Fin 4) : (planeRd (F := F) st).amount (recvCell c p) 0 d = N := by
  dsimp only [planeRd]; exact if_neg fun h => by cases h

theorem expect_bar : (planeRd (F := F) st).expect (barCell c) 0 = 3 := by
  unfold Schedule.expect Schedule.amountOf
  rw [duties_bar, Finset.sum_congr rfl fun d _ => amount_bar st c d, Finset.sum_const, Finset.card_erase_of_mem (Finset.mem_univ _),
    Finset.card_univ, Fintype.card_fin, smul_eq_mul]
theorem expect_send (h : p ≠ slot c) : (planeRd (F := F) st).expect (sendCell c p) 0 = N := by
  unfold Schedule.expect Schedule.amountOf; rw [duties_send, if_neg h, Finset.sum_singleton, amount_send]
theorem expect_recv (h : p ≠ slot c) : (planeRd (F := F) st).expect (recvCell c p) 0 = N := by
  unfold Schedule.expect Schedule.amountOf; rw [duties_recv, if_neg h, Finset.sum_singleton, amount_recv]

theorem payload_bar (d : Fin 4) : (planeRd (F := F) st).payload (barCell c) 0 d = barPay c d := by
  dsimp only [planeRd]; rw [sendIx_bar, recvIx_bar]; exact if_pos rfl
theorem payload_send (d : Fin 4) : (planeRd (F := F) st).payload (sendCell c p) 0 d = statPts c p (st c) := by
  dsimp only [planeRd]; rw [sendIx_send]
theorem payload_recv (d : Fin 4) : (planeRd (F := F) st).payload (recvCell c p) 0 d = slotPts c p (recvAt st c) := by
  dsimp only [planeRd]; rw [sendIx_recv, recvIx_recv]

/-- The barrier's round, no duty taken: the payload of every other place. -/
theorem rest_bar : bigSep ((planeRd (F := F) st).duties (barCell c) 0 \ ∅) (fun d => (planeRd (F := F) st).payload (barCell c) 0 d)
    ⊢ bigSep Finset.univ (fun p => but (slot c) p (barPay c p)) := by
  rw [Finset.sdiff_empty, duties_bar, show (fun d => (planeRd (F := F) st).payload (barCell c) 0 d) = fun d => barPay c d from funext fun d => payload_bar st c d]
  exact erase_but _ _
theorem rest_send (h : p ≠ slot c) : bigSep ((planeRd (F := F) st).duties (sendCell c p) 0 \ ∅) (fun d => (planeRd (F := F) st).payload (sendCell c p) 0 d)
    = statPts c p (st c) := by
  rw [Finset.sdiff_empty, duties_send, if_neg h, bigSep_singleton, payload_send]
theorem rest_recv (h : p ≠ slot c) : bigSep ((planeRd (F := F) st).duties (recvCell c p) 0 \ ∅) (fun d => (planeRd (F := F) st).payload (recvCell c p) 0 d)
    = slotPts c p (recvAt st c) := by
  rw [Finset.sdiff_empty, duties_recv, if_neg h, bigSep_singleton, payload_recv]

end Sched

/-! ## Debts and levels -/

/-- What device `c` owes the barrier of place `p`: one unit, unless the place is its own. -/
def oB (c : Dev nD) (p : Fin 4) : CellTallies nD τ sig Unit := if p = slot c then 0 else tallyAt (barCell (peer c p)) () 1
/-- What it owes the receive cell of place `p`. -/
def oR (c : Dev nD) (p : Fin 4) : CellTallies nD τ sig Unit := if p = slot c then 0 else tallyAt (recvCell (peer c p) (slot c)) () N
/-- The receive debts, paid from place 0 on, -/
def OR (c : Dev nD) : CellTallies nD τ sig Unit := ((oR c 3 + oR c 2) + oR c 1) + oR c 0
/-- and with them the barrier debts, paid first. -/
def O₀ (c : Dev nD) : CellTallies nD τ sig Unit := (((OR c + oB c 3) + oB c 2) + oB c 1) + oB c 0

def L (g : GSem nD τ sig) : Finset Unit := if g.1.2 = .tc then {()} else ∅
/-- Barrier cells at 1, receive cells at 2, everything else at 0. -/
def lv (g : GSem nD τ sig) (_ : Unit) : ℕ := if g.2 = .reg barS then 1 else if (recvIx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (p : Fin 4) : lv (recvCell c p) () = 2 := by
  unfold lv; rw [if_neg (fun h => by cases h), recvIx_recv]; rfl

theorem oB_pos {c : Dev nD} {p : Fin 4} {g : GSem nD τ sig} {u : Unit} (h : 0 < oB c p g u) : ∃ d, g = barCell d := by
  unfold oB at h
  split at h
  · exact absurd h (Nat.lt_irrefl 0)
  · rw [tallyAt_apply] at h
    by_contra hn
    rw [if_neg (fun h' => hn ⟨_, h'.1⟩)] at h
    exact Nat.lt_irrefl 0 h
theorem oR_pos {c : Dev nD} {p : Fin 4} {g : GSem nD τ sig} {u : Unit} (h : 0 < oR c p g u) : ∃ d q, g = recvCell d q := by
  unfold oR at h
  split at h
  · exact absurd h (Nat.lt_irrefl 0)
  · rw [tallyAt_apply] at h
    by_contra hn
    rw [if_neg (fun h' => hn ⟨_, _, h'.1⟩)] at h
    exact Nat.lt_irrefl 0 h

theorem add_pos_or {A B : CellTallies nD τ sig Unit} {g : GSem nD τ sig} {u : Unit} (h : 0 < (A + B) g u) : 0 < A g u ∨ 0 < B g u := by
  rw [Pi.add_apply, Finsupp.add_apply] at h
  omega

theorem OR_pos {c : Dev nD} {g : GSem nD τ sig} {u : Unit} (h : 0 < OR c g u) : ∃ d q, g = recvCell d q := by
  unfold OR at h
  rcases add_pos_or h with h | h
  · rcases add_pos_or h with h | h
    · rcases add_pos_or h with h | h <;> exact oR_pos h
    · exact oR_pos h
  · exact oR_pos h
theorem O₀_pos {c : Dev nD} {g : GSem nD τ sig} {u : Unit} (h : 0 < O₀ c g u) : (∃ d, g = barCell d) ∨ ∃ d q, g = recvCell d q := by
  unfold O₀ at h
  rcases add_pos_or h with h | h
  · rcases add_pos_or h with h | h
    · rcases add_pos_or h with h | h
      · rcases add_pos_or h with h | h
        · exact .inr (OR_pos h)
        · exact .inl (oB_pos h)
      · exact .inl (oB_pos h)
    · exact .inl (oB_pos h)
  · exact .inl (oB_pos h)

/-- A wait on a semaphore at level 0 is allowed whatever of its debts to barriers and receive cells a device still owes. -/
theorem mayWait_low (c : Dev nD) (sm : SemLoc sig) (hq : ∀ u, lv ((c : Thread nD τ), sm) u = 0) (O : CellTallies nD τ sig Unit)
    (hO : ∀ g u, 0 < O g u → (∃ d, g = barCell d) ∨ ∃ d q, g = recvCell d q) :
    (levAts L lv : sProp 𝕄) ⊢ MayWait (c : Thread nD τ) sm () O :=
  MayOwe.of_cut (L := L) (lev := lv) 0 (fun p hp => by rw [Finset.mem_singleton.mp hp, L_tc]; exact Finset.mem_singleton_self _)
    (fun g u hg => by rcases hO g u hg with ⟨d, rfl⟩ | ⟨d, q, rfl⟩ <;> exact Finset.mem_singleton_self _)
    (fun p hp => by rw [Finset.mem_singleton.mp hp, hq])
    (fun g u hg => by
      rcases hO g u hg with ⟨d, rfl⟩ | ⟨d, q, rfl⟩
      · rw [lv_bar]; decide
      · rw [lv_recv]; decide)

/-- At its barrier wait a device owes receive cells only, which lie above its barrier. -/
theorem mayWait_bar (c : Dev nD) : (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨d, q, rfl⟩ := OR_pos hg; exact Finset.mem_singleton_self _)
    (fun p hp => by rw [Finset.mem_singleton.mp hp, lv_bar])
    (fun g u hg => by obtain ⟨d, q, rfl⟩ := OR_pos hg; rw [lv_recv]; decide)

/-! ## The cells of the plane, and a device's ghost state -/

/-- A device's nine protocol cells: its barrier, a send and a receive cell for each place. -/
abbrev CI : Type := Unit ⊕ (Fin 4 ⊕ Fin 4)
abbrev csem : CI → SemLoc sig
  | .inl _ => .reg barS
  | .inr (.inl p) => .dma (sendS p)
  | .inr (.inr p) => .dma (recvS p)
abbrev kcell (ck : Dev nD × CI) : GSem nD τ sig := ((ck.1 : Thread nD τ), csem ck.2)

/-- Of every cell of every device: its invariant, and that round 0 is reached. -/
def records (st : Dev nD → Vec F S1024x2 .f32) (K : Dev nD × CI → ℕ) : sProp 𝕄 :=
  bigSep Finset.univ fun ck : Dev nD × CI => iprop(cellInv ER (planeRd st) (K ck) (kcell ck) ∗ reached ER (kcell ck) 0)

instance records_persistent (st : Dev nD → Vec F S1024x2 .f32) (K : Dev nD × CI → ℕ) : BI.Persistent (records st K) := by unfold records; infer_instance

theorem record_at (st : Dev nD → Vec F S1024x2 .f32) (K : Dev nD × CI → ℕ) (ck : Dev nD × CI) :
    records st K ⊢ iprop(cellInv ER (planeRd st) (K ck) (kcell ck) ∗ reached ER (kcell ck) 0) :=
  bigSep_elim (Finset.mem_univ ck)

theorem rec_bar (st : Dev nD → Vec F S1024x2 .f32) (K : Dev nD × CI → ℕ) (c : Dev nD) :
    records st K ⊢ iprop(cellInv ER (planeRd st) (K (c, .inl ())) (barCell c) ∗ reached ER (barCell c) 0) := record_at st K (c, .inl ())
theorem rec_send (st : Dev nD → Vec F S1024x2 .f32) (K : Dev nD × CI → ℕ) (c : Dev nD) (p : Fin 4) :
    records st K ⊢ iprop(cellInv ER (planeRd st) (K (c, .inr (.inl p))) (sendCell c p) ∗ reached ER (sendCell c p) 0) := record_at st K (c, .inr (.inl p))
theorem rec_recv (st : Dev nD → Vec F S1024x2 .f32) (K : Dev nD × CI → ℕ) (c : Dev nD) (p : Fin 4) :
    records st K ⊢ iprop(cellInv ER (planeRd st) (K (c, .inr (.inr p))) (recvCell c p) ∗ reached ER (recvCell c p) 0) := record_at st K (c, .inr (.inr p))

/-- What a device brings to its business with place `p`: its positions in its two cells for the place, and three tokens — of
    the place's barrier (its own place's duty), of its own send cell, of the place's receive cell for it. -/
def place (c : Dev nD) (p : Fin 4) : sProp 𝕄 :=
  iprop(atPos ER (sendCell c p) 0 ∅ 0 ∗ atPos ER (recvCell c p) 0 ∅ 0
    ∗ dutyTok ER (barCell (peer c p)) 0 (slot c) ∗ dutyTok ER (sendCell c p) 0 0 ∗ dutyTok ER (recvCell (peer c p) (slot c)) 0 0)

/-- A device's ghost state at the start, but for the invariants. -/
def ghost (c : Dev nD) : sProp 𝕄 := iprop(atPos ER (barCell c) 0 ∅ 0 ∗ bigSep Finset.univ (place c))

/-- The credit a device waits with: three units at its barrier, a transfer's at its receive cell of every other place. -/
def credits (c : Dev nD) : sProp 𝕄 :=
  iprop(cred (tallyAt (barCell c) () 3) ∗ bigSep Finset.univ (fun p => but (slot c) p (cred (tallyAt (recvCell c p) () N))))

end Cert.KernelIdeal.Plane

end
-- ==== Proof.Steps.lean ====
/-
The steps of a device's run, each proved once for every place of the plane or every slot of the weight buffer: the signal to
a place, the send to it and the two waits for it (each guarded by the place being another's), the fetch of a chunk of the
weights, the wait for it and the loads that read it.
-/
module

public import proofs.«01_k».proof.Proof.Protocol

@[expose] public section

noncomputable section

namespace Cert.KernelIdeal.Plane

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (st : Dev nD → Vec F S1024x2 .f32) (K : Dev nD × CI → ℕ)

/-- What a device owes, whatever it has waited for. -/
def owing (c : Dev nD) (O : CellTallies nD τ sig Unit) : sProp 𝕄 := iprop(∃ W, owes (c : Thread nD τ) O W)

/-! ## The stages of a device's business with one place -/

/-- Before the signal. -/
def ready (c : Dev nD) (p : Fin 4) : sProp 𝕄 := iprop(place c p ∗ slotPts c p k0_pay2)
/-- After it: the slot is kept only for the own place. -/
def signalled (c : Dev nD) (p : Fin 4) : sProp 𝕄 :=
  iprop(atPos ER (sendCell c p) 0 ∅ 0 ∗ atPos ER (recvCell c p) 0 ∅ 0 ∗ dutyTok ER (sendCell c p) 0 0 ∗ dutyTok ER (recvCell (peer c p) (slot c)) 0 0
    ∗ if p = slot c then slotPts c p k0_pay2 else iprop(emp))
/-- After the send. -/
def sent (c : Dev nD) (p : Fin 4) : sProp 𝕄 :=
  iprop(atPos ER (sendCell c p) 0 ∅ 0 ∗ atPos ER (recvCell c p) 0 ∅ 0
    ∗ if p = slot c then iprop(slotPts c p k0_pay2 ∗ statPts c p (st c)) else cred (tallyAt (sendCell c p) () N))
/-- After the waits: the slot as it is at the end, the share of the columns back, both cells closed. -/
def settled (c : Dev nD) (p : Fin 4) : sProp 𝕄 :=
  iprop(slotPts c p (recvAt st c) ∗ statPts c p (st c) ∗ semVal (sendCell c p) 0 ∗ semVal (recvCell c p) 0)

/-! ## The signal -/

/-- The signal to place `p`, if it is another's: the debt of one unit is paid, the slot of that place handed over. -/
theorem signal_step (c : Dev nD) (p : Fin 4) {C : Prop} [Decidable C] (hC : C ↔ p ≠ slot c) (dev : C → Dev nD) (hdev : ∀ h, dev h = peer c p)
    (O : CellTallies nD τ sig Unit) {α : Type} {Q : α → sProp 𝕄} {k : Prog (TpuEff nD τ sig (Elt F) Λ₀ .tc) α} :
    iprop(records st K ∗ owing c (O + oB c p) ∗ ready c p)
      ⊢ iprop(((owing c O ∗ signalled c p) -∗ wp frame (wpE (defs₀ (F := F)) 𝒱₀ (c : Thread nD τ) none) Set.univ k Q)
          -∗ wp frame (wpE (defs₀ (F := F)) 𝒱₀ (c : Thread nD τ) none) Set.univ (if h : C then .op (.semSignal (dev h : Thread nD τ) barS (1#32).toNat) fun _ => k else k) Q) := by
  unfold ready signalled place owing
  by_cases hp : p = slot c
  · rw [dif_neg (fun h => hC.mp h hp), show O + oB c p = O by unfold oB; rw [if_pos hp, add_zero]]
    simp only [if_pos hp]
    iintro ⟨#Hrec, ⟨%W, HO⟩, ⟨HaS, HaR, HtB, HtS, HtR⟩, Hs⟩ Hk
    iapply Hk
    isplitl [HO]; · iexists W; iexact HO
    isplitl [HaS]; · iexact HaS
    isplitl [HaR]; · iexact HaR
    isplitl [HtS]; · iexact HtS
    isplitl [HtR] <;> iassumption
  · rw [dif_pos (hC.mpr hp), hdev]
    simp only [if_neg hp]
    iintro ⟨#Hrec, ⟨%W, HO⟩, ⟨HaS, HaR, HtB, HtS, HtR⟩, Hs⟩ Hk
    ihave #Hb := (rec_bar st K (peer c p)) $$ Hrec
    icases Hb with ⟨#HIb, #HrB⟩
    ihave #Hv := (rec_recv st K c p) $$ Hrec
    icases Hv with ⟨-, #HrV⟩
    have hs : slot (peer c p) = p := slot_peer c p
    have hpp : peer (peer c p) (slot c) = c := by rw [peer_peer, peer_slot]
    iapply (Rounds.wp_signal 𝒱₀ ER (planeRd st) (c : Thread nD τ) none (dst := (peer c p : Thread nD τ)) (κ := K (peer c p, .inl ()))
        (d := slot c) (by rw [duties_bar, hs]; exact Finset.mem_erase.mpr ⟨fun h => hp h.symm, Finset.mem_univ _⟩)
        ((amount_bar st (peer c p) (slot c)).trans (by decide)) () (O₀ := O + oB c p) O (by unfold oB; rw [if_neg hp]; rfl))
      $$ [HO HtB Hs]
    · isplitr; · iexact HIb
      isplitl [HO]; · iexact HO
      isplitl [HtB]; · iexact HtB
      isplitl [Hs]
      · rw [payload_bar]; unfold barPay slotAny; rw [hs, hpp]
        isplitl [Hs]; · iexists _; iexact Hs
        iexact HrV
      · iexact HrB
    iintro HO
    iapply Hk
    isplitl [HO]; · iexists W; iexact HO
    isplitl [HaS]; · iexact HaS
    isplitl [HaR]; · iexact HaR
    isplitl [HtS]; · iexact HtS
    isplitl [HtR]; · iexact HtR
    iempintro

/-! ## The barrier wait -/

/-- The wait for three units: the three others' slots of this device come with them. -/
theorem barrier_step (c : Dev nD) {α : Type} {Q : α → sProp 𝕄} {k : PUnit → Prog (TpuEff nD τ sig (Elt F) Λ₀ .tc) α} :
    iprop(records st K ∗ levAts L lv ∗ owing c (OR c) ∗ atPos ER (barCell c) 0 ∅ 0 ∗ cred (tallyAt (barCell c) () 3))
      ⊢ iprop(((owing c (OR c) ∗ semVal (barCell c) 0 ∗ bigSep Finset.univ (fun p => but (slot c) p (barPay c p)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  unfold owing
  iintro ⟨#Hrec, #Hlev, ⟨%W, HO⟩, Hat, Hcr⟩ Hk
  ihave #Hb := (rec_bar st K c) $$ Hrec
  icases Hb with ⟨#HIb, -⟩
  iapply (Rounds.wp_wait_rest_token 𝒱₀ ER (planeRd st) (c : Thread nD τ) none (κ := K (c, .inl ()))
      (wpE_semWait_eq 𝒱₀ (c : Thread nD τ) none Set.univ) (Set.mem_univ _) () (O := OR c) (W := W) (R := 0) (m := 0) (T := ∅)
      (by rw [expect_bar])) $$ [Hcr HO Hat]
  · isplitr; · iexact HIb
    isplitl [Hcr]; · iexact Hcr
    isplitl [HO]; · iexact HO
    isplitr; · iapply (mayWait_bar c); iexact Hlev
    iexact Hat
  iintro ⟨HO, Hat, -, Hpay⟩
  ihave Hp := (rest_bar st c) $$ Hpay
  imod (Rounds.cell_close ER (planeRd st) (Set.mem_univ (K (c, .inl ()))) (fun h => h) (R := 0 + 1) (duties_later st (barCell c))) $$ [Hat] with Hz
  · isplitr; · iexact HIb
    iexact Hat
  iapply Hk
  isplitl [HO]; · iexists _; iexact HO
  isplitl [Hz] <;> iassumption

/-! ## The send -/

/-- The columns arrive as `recvAt` says. -/
theorem landed (c : Dev nD) (p : Fin 4) (hp : p ≠ slot c) (f : Buf (Elt F) ((peer c p : Thread nD τ).loc cc0_scratch2)) :
    ((rSlot (slot c)).view.loc (peer c p : Thread nD τ) ↦[(rSlot (slot c)).view.set]{fullShare}
        ((rSlot (slot c)).view.write (Elt F) f (tM.view.read (Elt F) (st c)) Finset.univ) : sProp 𝕄)
      ⊢ slotPts (peer c p) (slot c) (recvAt st (peer c p)) := by
  unfold slotPts
  have hs : slot c ≠ slot (peer c p) := by rw [slot_peer]; exact fun h => hp h.symm
  have hpp : st (peer (peer c p) (slot c)) = st c := by rw [peer_peer, peer_slot]
  refine Entails.of_eq (pointsTo_congr fun i hi => ?_)
  have h := recvAt_written st (peer c p) (slot c) hs f i hi
  rw [hpp] at h
  exact h

/-- The send to another's place, its target named by an equation. -/
theorem send_core (c : Dev nD) (p : Fin 4) (hp : p ≠ slot c) {n : Dev nD} (hn : n = peer c p)
    {sinb : ∀ a, (![p.val] : Fin 1 → ℕ) a + S1.size a ≤ S4.size a} {rinb : ∀ a, (![(slot c).val] : Fin 1 → ℕ) a + S1.size a ≤ S4.size a}
    {oinb : ∀ a, (![(slot c).val, 0, 0] : Fin 3 → ℕ) a + S1x1024x2.size a ≤ S4x1024x2.size a}
    {hsc : (rW ![(slot c).val, 0, 0] oinb).view.ref.isScScratch = false} {hsrc : tM.view.WordExact} {hdst : (rW ![(slot c).val, 0, 0] oinb).view.WordExact}
    {hsem : DmaTarget.Typed .vmem (.dma (rSem ![(slot c).val] rinb)) (.remote (Dev.tc n : Thread nD τ) (rW ![(slot c).val, 0, 0] oinb) (.dma (sSem ![p.val] sinb)) hsc)}
    (O : CellTallies nD τ sig Unit) (W : Waits sig Unit) {α : Type} {Q : α → sProp 𝕄} {k : PUnit → Prog (TpuEff nD τ sig (Elt F) Λ₀ .tc) α} :
    iprop(records st K ∗ statPts c p (st c) ∗ barPay c p ∗ owes (c : Thread nD τ) (O + oR c p) W
        ∗ dutyTok ER (sendCell c p) 0 0 ∗ dutyTok ER (recvCell (peer c p) (slot c)) 0 0)
      ⊢ iprop(((cred (tallyAt (sendCell c p) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma tM (.remote (Dev.tc n : Thread nD τ) (rW ![(slot c).val, 0, 0] oinb) (.dma (sSem ![p.val] sinb)) hsc)
              (.dma (rSem ![(slot c).val] rinb)) hsrc hdst hsem) k) Q) := by
  subst hn
  iintro ⟨#Hrec, Hst, Hb, HO, HtS, HtR⟩
  ihave #H1 := (rec_send st K c p) $$ Hrec
  icases H1 with ⟨#HIs, #HrS⟩
  ihave #H2 := (rec_recv st K (peer c p) (slot c)) $$ Hrec
  icases H2 with ⟨#HIv, #HrV⟩
  unfold barPay slotAny
  icases Hb with ⟨⟨%fn, Hd⟩, -⟩
  have hs : slot c ≠ slot (peer c p) := by rw [slot_peer]; exact fun h => hp h.symm
  iapply (Rounds.wp_send_pointsTo 𝒱₀ ER (planeRd st) (c : Thread nD τ) none (c' := (peer c p : Thread nD τ)) (src := tM) (dst := rW ![(slot c).val, 0, 0] oinb)
      (sS := .dma (sSem ![p.val] sinb)) (sem := .dma (rSem ![(slot c).val] rinb)) (κ₁ := K (c, .inr (.inl p))) (κ₂ := K (peer c p, .inr (.inr (slot c))))
      (r₁ := 0) (r₂ := 0) (d₁ := 0) (d₂ := 0) (fs := st c) (fd := fn) (q := Transfers.shareTok fullShare 4 p)
      (by rw [duties_send, if_neg hp]; exact Finset.mem_singleton_self _) (by rw [duties_recv, if_neg hs]; exact Finset.mem_singleton_self _)
      () () N (rW_credit _ _) (amount_send st c p 0) (amount_recv st (peer c p) (slot c) 0) (O₀ := O + oR c p) O (by unfold oR; rw [if_neg hp]) (W := W)
      (by rw [payload_send]; exact BI.Entails.refl _)
      (by rw [payload_recv]; exact landed st c p hp fn))
  isplitr; · iexact HIs
  isplitr; · iexact HIv
  isplitl [Hst]; · unfold statPts; iexact Hst
  isplitl [Hd]; · unfold slotPts; iexact Hd
  isplitl [HO]; · iexact HO
  isplitl [HtS]; · iexact HtS
  isplitr; · iexact HrS
  isplitl [HtR]; · iexact HtR
  iexact HrV

/-- The send to place `p`, if it is another's. -/
theorem send_step (c : Dev nD) (p : Fin 4) {C : Prop} [Decidable C] (hC : C ↔ p ≠ slot c) (dev : C → Dev nD) (hdev : ∀ h, dev h = peer c p)
    {so ro : Fin 1 → ℕ} {o : Fin 3 → ℕ} (hso : so = ![p.val]) (hro : ro = ![(slot c).val]) (ho : o = ![(slot c).val, 0, 0])
    {sinb : ∀ a, so a + S1.size a ≤ S4.size a} {rinb : C → ∀ a, ro a + S1.size a ≤ S4.size a} {oinb : C → ∀ a, o a + S1x1024x2.size a ≤ S4x1024x2.size a}
    {hsc : ∀ h : C, (rW o (oinb h)).view.ref.isScScratch = false} {hsrc : tM.view.WordExact} {hdst : ∀ h : C, (rW o (oinb h)).view.WordExact}
    {hsem : ∀ h : C, DmaTarget.Typed .vmem (.dma (rSem ro (rinb h))) (.remote (Dev.tc (dev h) : Thread nD τ) (rW o (oinb h)) (.dma (sSem so sinb)) (hsc h))}
    (O : CellTallies nD τ sig Unit) {α : Type} {Q : α → sProp 𝕄} {k : Prog (TpuEff nD τ sig (Elt F) Λ₀ .tc) α} :
    iprop(records st K ∗ owing c (O + oR c p) ∗ signalled c p ∗ but (slot c) p (barPay c p) ∗ statPts c p (st c))
      ⊢ iprop(((owing c O ∗ sent st c p) -∗ wp frame (wpE (defs₀ (F := F)) 𝒱₀ (c : Thread nD τ) none) Set.univ k Q)
          -∗ wp frame (wpE (defs₀ (F := F)) 𝒱₀ (c : Thread nD τ) none) Set.univ
            (if h : C then
              .op (.enqueueDma tM (.remote (Dev.tc (dev h) : Thread nD τ) (rW o (oinb h)) (.dma (sSem so sinb)) (hsc h)) (.dma (rSem ro (rinb h))) hsrc (hdst h) (hsem h))
                fun _ => k
              else k) Q) := by
  subst hso hro ho
  unfold signalled sent owing
  by_cases hp : p = slot c
  · rw [dif_neg (fun h => hC.mp h hp), show O + oR c p = O by unfold oR; rw [if_pos hp, add_zero]]
    simp only [if_pos hp]
    iintro ⟨#Hrec, ⟨%W, HO⟩, ⟨HaS, HaR, HtS, HtR, Hs⟩, Hb, Hst⟩ Hk
    iapply Hk
    isplitl [HO]; · iexists W; iexact HO
    isplitl [HaS]; · iexact HaS
    isplitl [HaR]; · iexact HaR
    isplitl [Hs] <;> iassumption
  · have hc : C := hC.mpr hp
    rw [dif_pos hc, but_ne hp]
    simp only [if_neg hp]
    iintro ⟨#Hrec, ⟨%W, HO⟩, ⟨HaS, HaR, HtS, HtR, -⟩, Hb, Hst⟩ Hk
    iapply (send_core st K c p hp (hdev hc) O W) $$ [HO HtS HtR Hst Hb]
    · isplitr; · iexact Hrec
      isplitl [Hst]; · iexact Hst
      isplitl [Hb]; · iexact Hb
      isplitl [HO]; · iexact HO
      isplitl [HtS] <;> iassumption
    iintro ⟨Hcr, HO⟩
    iapply Hk
    isplitl [HO]; · iexists W; iexact HO
    isplitl [HaS]; · iexact HaS
    isplitl [HaR] <;> iassumption

/-! ## The waits for a place -/

/-- The wait for place `p`'s columns and the wait for the own send to it, if it is another's: either way the place's slot holds
    what it holds at the end, and both cells are closed. -/
theorem settle_step (c : Dev nD) (p : Fin 4) {C : Prop} [Decidable C] (hC : C ↔ p ≠ slot c)
    {so ro : Fin 1 → ℕ} {o o' : Fin 3 → ℕ} (hso : so = ![p.val]) (hro : ro = ![p.val])
    {sinb : ∀ a, so a + S1.size a ≤ S4.size a} {rinb : ∀ a, ro a + S1.size a ≤ S4.size a}
    {oinb : ∀ a, o a + S1x1024x2.size a ≤ S4x1024x2.size a} {oinb' : C → ∀ a, o' a + S1x1024x2.size a ≤ S4x1024x2.size a}
    {h₁ : tM.view.WordExact} {h₂ : (rW o oinb).view.WordExact} {h₃ : ∀ h : C, (rW o' (oinb' h)).view.WordExact} {h₄ : tM.view.WordExact}
    {α : Type} {Q : α → sProp 𝕄} {k : Prog (TpuEff nD τ sig (Elt F) Λ₀ .tc) α} :
    iprop(records st K ∗ owing c 0 ∗ sent st c p ∗ but (slot c) p (cred (tallyAt (recvCell c p) () N)))
      ⊢ iprop(((owing c 0 ∗ settled st c p) -∗ wp frame (wpE (defs₀ (F := F)) 𝒱₀ (c : Thread nD τ) none) Set.univ k Q)
          -∗ wp frame (wpE (defs₀ (F := F)) 𝒱₀ (c : Thread nD τ) none) Set.univ
            (if h : C then
              .op (.waitDma2 (rSem ro rinb) tM (rW o oinb) h₁ h₂) fun _ =>
                .op (.waitDma2 (sSem so sinb) (rW o' (oinb' h)) tM (h₃ h) h₄) fun _ => k
              else k) Q) := by
  subst hso hro
  unfold sent settled owing
  by_cases hp : p = slot c
  · rw [dif_neg (fun h => hC.mp h hp)]
    simp only [if_pos hp]
    iintro ⟨#Hrec, ⟨%W, HO⟩, ⟨HaS, HaR, Hs, Hst⟩, Hcr⟩ Hk
    ihave #H1 := (rec_send st K c p) $$ Hrec
    icases H1 with ⟨#HIs, -⟩
    ihave #H2 := (rec_recv st K c p) $$ Hrec
    icases H2 with ⟨#HIv, -⟩
    imod (Rounds.cell_close ER (planeRd st) (Set.mem_univ (K (c, .inr (.inl p)))) (fun h => h) (R := 0)
      (fun r hr => by
        rcases Nat.eq_zero_or_pos r with rfl | hr'
        · rw [duties_send, if_pos hp]
        · exact duties_later st (sendCell c p) r hr')) $$ [HaS] with HzS
    · isplitr; · iexact HIs
      iexact HaS
    imod (Rounds.cell_close ER (planeRd st) (Set.mem_univ (K (c, .inr (.inr p)))) (fun h => h) (R := 0)
      (fun r hr => by
        rcases Nat.eq_zero_or_pos r with rfl | hr'
        · rw [duties_recv, if_pos hp]
        · exact duties_later st (recvCell c p) r hr')) $$ [HaR] with HzR
    · isplitr; · iexact HIv
      iexact HaR
    iapply Hk
    isplitl [HO]; · iexists W; iexact HO
    isplitl [Hs]
    · subst hp
      iapply (Entails.of_eq (by unfold slotPts; exact pointsTo_congr fun i hi => recvAt_own st c i hi) :
        slotPts c (slot c) k0_pay2 ⊢ slotPts c (slot c) (recvAt st c))
      iexact Hs
    isplitl [Hst]; · iexact Hst
    isplitl [HzS] <;> iassumption
  · have hc : C := hC.mpr hp
    rw [dif_pos hc, but_ne hp]
    simp only [if_neg hp]
    iintro ⟨#Hrec, ⟨%W, HO⟩, ⟨HaS, HaR, Hs⟩, Hcr⟩ Hk
    ihave #H1 := (rec_send st K c p) $$ Hrec
    icases H1 with ⟨#HIs, -⟩
    ihave #H2 := (rec_recv st K c p) $$ Hrec
    icases H2 with ⟨#HIv, -⟩
    iapply (Rounds.wp_wait_rest_token 𝒱₀ ER (planeRd st) (c : Thread nD τ) none (κ := K (c, .inr (.inr p)))
        (wpE_waitDma2_eq 𝒱₀ (c : Thread nD τ) none Set.univ) (Set.mem_univ _) () (O := 0) (W := W) (R := 0) (m := 0) (T := ∅)
        (by rw [Nat.zero_add, expect_recv st c p hp])) $$ [Hcr HO HaR]
    · isplitr; · iexact HIv
      isplitl [Hcr]; · iexact Hcr
      isplitl [HO]; · iexact HO
      isplitr; · rw [MayWait_zero]; iempintro
      iexact HaR
    iintro ⟨HO, HaR, -, Hpay⟩
    ihave Hsl := (Entails.of_eq (rest_recv st c p hp)) $$ Hpay
    iapply (Rounds.wp_wait_rest_token 𝒱₀ ER (planeRd st) (c : Thread nD τ) none (κ := K (c, .inr (.inl p)))
        (wpE_waitDma2_eq 𝒱₀ (c : Thread nD τ) none Set.univ) (Set.mem_univ _) () (O := 0) (R := 0) (m := 0) (T := ∅)
        (by rw [Nat.zero_add, expect_send st c p hp])) $$ [Hs HO HaS]
    · isplitr; · iexact HIs
      isplitl [Hs]; · iexact Hs
      isplitl [HO]; · iexact HO
      isplitr; · rw [MayWait_zero]; iempintro
      iexact HaS
    iintro ⟨HO, HaS, -, Hpay⟩
    ihave Hst := (Entails.of_eq (rest_send st c p hp)) $$ Hpay
    imod (Rounds.cell_close ER (planeRd st) (Set.mem_univ (K (c, .inr (.inl p)))) (fun h => h) (R := 0 + 1) (duties_later st (sendCell c p))) $$ [HaS] with HzS
    · isplitr; · iexact HIs
      iexact HaS
    imod (Rounds.cell_close ER (planeRd st) (Set.mem_univ (K (c, .inr (.inr p)))) (fun h => h) (R := 0 + 1) (duties_later st (recvCell c p))) $$ [HaR] with HzR
    · isplitr; · iexact HIv
      iexact HaR
    iapply Hk
    isplitl [HO]; · iexists _; iexact HO
    isplitl [Hsl]; · iexact Hsl
    isplitl [Hst]; · iexact Hst
    isplitl [HzS] <;> iassumption

end Cert.KernelIdeal.Plane

end
-- ==== Proof.Fetch.lean ====
/-
The transfers within a device: the rows of `x`, and the chunks of the weights through the two slots of the weight buffer,
each started and waited for by one lemma for every chunk and slot, with the loads that read them.
-/
module

public import proofs.«01_k».proof.Proof.Steps

@[expose] public section

noncomputable section

namespace Cert.KernelIdeal.Plane

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The rows of `x` -/

/-- What a transfer of the rows, and of a chunk of the weights, is worth on its semaphore. -/
abbrev NX : ℕ := xM.view.dmaCredit
abbrev NW : ℕ := (wSlot 0).view.dmaCredit
theorem NX_pos : 0 < NX := View.dmaCredit_pos _ (by decide)
theorem NW_pos : 0 < NW := View.dmaCredit_pos _ (by decide)

/-- The rows in HBM, and in the device's own memory. -/
def xSrc (c : Dev nD) (x : Buf (Elt F) ((c : Thread nD τ).loc main_arg0)) : sProp 𝕄 := ((c : Thread nD τ).loc main_arg0) ↦{fullShare} x
def xHere (c : Dev nD) (x : Buf (Elt F) ((c : Thread nD τ).loc cc0_scratch0)) : sProp 𝕄 := ((c : Thread nD τ).loc cc0_scratch0) ↦{fullShare} x

/-- The rows in flight. -/
def xFlight (c : Dev nD) (x : Buf (Elt F) ((c : Thread nD τ).loc main_arg0)) : sProp 𝕄 :=
  Transfers.Flight countersEmb (c : Thread nD τ) (.dma xS) () NX iprop(xHere c x ∗ xSrc c x)

/-- Starting the transfer of the rows. -/
theorem x_start (c : Dev nD) (x : Buf (Elt F) ((c : Thread nD τ).loc main_arg0)) (f : Buf (Elt F) ((c : Thread nD τ).loc cc0_scratch0))
    {hsrc : xhM.view.WordExact} {hdst : xM.view.WordExact} {hsem : DmaTarget.Typed .hbm (.dma xS) (.here (p := .tc) xM : DmaTarget nD τ sig .tc _ _ _)}
    {α : Type} {Q : α → sProp 𝕄} {k : PUnit → Prog (TpuEff nD τ sig (Elt F) Λ₀ .tc) α} :
    iprop(xSrc c x ∗ xHere c f ∗ semVal ((c : Thread nD τ), .dma xS) 0)
      ⊢ iprop((xFlight c x -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma xhM (.here xM) (.dma xS) hsrc hdst hsem) k) Q) := by
  have hD : iprop((xM.view.loc (c : Thread nD τ) ↦[Finset.univ]{fullShare} (xM.view.write (Elt F) f (xhM.view.read (Elt F) x) Finset.univ))
        ∗ (xhM.view.loc (c : Thread nD τ) ↦[xhM.view.set]{fullShare} x)) ⊢ (iprop(xHere c x ∗ xSrc c x) : sProp 𝕄) := by
    unfold xHere xSrc
    have e : xM.view.write (Elt F) f (xhM.view.read (Elt F) x) Finset.univ = x := View.write_whole_univ cc0_scratch0 f x
    rw [e, show xhM.view.set = Finset.univ from View.set_whole main_arg0]
  unfold xFlight
  iintro ⟨Hs, Hd, Hv⟩ Hk
  iapply (Transfers.wp_dmaLocal countersEmb 𝒱₀ (c : Thread nD τ) none (hsrc := hsrc) (hdst := hdst) (hsem := hsem) (src := xhM) (dst := xM) (fs := x) (fd := f) (Sd := Finset.univ)
      (q := fullShare) () NX rfl NX_pos (Finset.subset_univ _)) $$ [Hs Hd Hv]
  · unfold xSrc xHere
    isplitl [Hs]
    · iapply (Entails.of_eq (by rw [View.set_whole] : (((c : Thread nD τ).loc main_arg0) ↦{fullShare} x : sProp 𝕄) = (xhM.view.loc (c : Thread nD τ) ↦[xhM.view.set]{fullShare} x)))
      iexact Hs
    isplitl [Hd] <;> iassumption
  iintro Hf
  iapply Hk
  iapply (Transfers.Flight_mono (EC := countersEmb) (c := (c : Thread nD τ)) hD)
  iexact Hf

/-- Waiting for it. -/
theorem x_wait (c : Dev nD) (x : Buf (Elt F) ((c : Thread nD τ).loc main_arg0)) (O : CellTallies nD τ sig Unit)
    (hO : ∀ g u, 0 < O g u → (∃ d, g = barCell d) ∨ ∃ d q, g = recvCell d q)
    {hsrc : xhM.view.WordExact} {hdst : xM.view.WordExact}
    {α : Type} {Q : α → sProp 𝕄} {k : PUnit → Prog (TpuEff nD τ sig (Elt F) Λ₀ .tc) α} :
    iprop(levAts L lv ∗ owing c O ∗ xFlight c x)
      ⊢ iprop(((owing c O ∗ semVal ((c : Thread nD τ), .dma xS) 0 ∗ xHere c x ∗ xSrc c x) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 xS xhM xM hsrc hdst) k) Q) := by
  unfold xFlight owing
  iintro ⟨#Hlev, ⟨%W, HO⟩, Hf⟩ Hk
  iapply (Transfers.wp_waitLocalO countersEmb 𝒱₀ (c : Thread nD τ) none (hsrc := hsrc) (hdst := hdst) () (N := NX) rfl) $$ [Hf HO]
  · isplitl [Hf]; · iexact Hf
    isplitl [HO]; · iexact HO
    iapply (mayWait_low c (.dma xS) (fun _ => by rfl) O hO); iexact Hlev
  iintro ⟨⟨Hx, Hs⟩, Hv, HO⟩
  iapply Hk
  isplitl [HO]; · iexists _; iexact HO
  isplitl [Hv]; · iexact Hv
  isplitl [Hx] <;> iassumption

/-! ## The chunks of the weights -/

/-- The share of the weights that slot `s` of the weight buffer is filled from. -/
def wSrc (c : Dev nD) (s : Fin 2) (W : Buf (Elt F) ((c : Thread nD τ).loc main_arg1)) : sProp 𝕄 :=
  ((c : Thread nD τ).loc main_arg1) ↦{Transfers.shareTok fullShare 2 s} W

/-- Slot `s` holding `w`, and at contents left open. -/
def wAt (c : Dev nD) (s : Fin 2) (w : Vec F S2048x1024 .f32) : sProp 𝕄 :=
  iprop(∃ f : Buf (Elt F) ((c : Thread nD τ).loc cc0_scratch1), ⌜(wSlot s).view.read (Elt F) f = w⌝ ∗ (((c : Thread nD τ).loc cc0_scratch1) ↦[wSet c s]{fullShare} f))
def wAny (c : Dev nD) (s : Fin 2) : sProp 𝕄 :=
  iprop(∃ f : Buf (Elt F) ((c : Thread nD τ).loc cc0_scratch1), ((c : Thread nD τ).loc cc0_scratch1) ↦[wSet c s]{fullShare} f)

/-- Slot `s` free: its contents open, its cell at zero, its share of the weights whole. -/
def wFree (c : Dev nD) (s : Fin 2) (W : Buf (Elt F) ((c : Thread nD τ).loc main_arg1)) : sProp 𝕄 :=
  iprop(wAny c s ∗ semVal ((c : Thread nD τ), .dma (wS s)) 0 ∗ wSrc c s W)

/-- Slot `s` filled with `w`. -/
def wFull (c : Dev nD) (s : Fin 2) (W : Buf (Elt F) ((c : Thread nD τ).loc main_arg1)) (w : Vec F S2048x1024 .f32) : sProp 𝕄 :=
  iprop(wAt c s w ∗ semVal ((c : Thread nD τ), .dma (wS s)) 0 ∗ wSrc c s W)

omit [FloatOps F] in
theorem wFull_free (c : Dev nD) (s : Fin 2) (W : Buf (Elt F) ((c : Thread nD τ).loc main_arg1)) (w : Vec F S2048x1024 .f32) :
    wFull c s W w ⊢ wFree c s W := by
  unfold wFull wFree wAt wAny
  iintro ⟨⟨%f, -, H⟩, Hr⟩
  isplitl [H]; · iexists f; iexact H
  iexact Hr

/-- The window of chunk `j`. -/
abbrev jW (c : Dev nD) (j : Fin 8) : Memref sig .tc .hbm S2048x1024 .f32 := hW (k0_off1 c (BitVec.ofNat 32 (1024 * j.val))) (k0_off1_inb c j)

/-- Chunk `j` on its way to slot `s`. -/
def wFlight (c : Dev nD) (s : Fin 2) (W : Buf (Elt F) ((c : Thread nD τ).loc main_arg1)) (j : Fin 8) : sProp 𝕄 :=
  iprop(Transfers.Flight countersEmb (c : Thread nD τ) (.dma (wS s)) () NW
      iprop(wAt c s (chunk c W j) ∗ ((jW c j).view.loc (c : Thread nD τ) ↦[(jW c j).view.set]{Transfers.shareTok fullShare 2 s} W))
    ∗ (((c : Thread nD τ).loc main_arg1) ↦[Finset.univ \ (jW c j).view.set]{Transfers.shareTok fullShare 2 s} W))

/-- Starting the fetch of chunk `j` into slot `s`. -/
theorem w_start (c : Dev nD) (s : Fin 2) (j : Fin 8) (W : Buf (Elt F) ((c : Thread nD τ).loc main_arg1))
    {b : BitVec 32} (hb : b = BitVec.ofNat 32 (1024 * j.val)) {o : Fin 3 → ℕ} (ho : o = ![s.val, 0, 0]) {so : Fin 1 → ℕ} (hso : so = ![s.val])
    {binb : ∀ a, k0_off1 c b a + S2048x1024.size a ≤ S2048x16384.size a} {oinb : ∀ a, o a + S1x2048x1024.size a ≤ S2x2048x1024.size a}
    {sinb : ∀ a, so a + S1.size a ≤ S2.size a}
    {hsrc : (hW (k0_off1 c b) binb).view.WordExact} {hdst : (wW o oinb).view.WordExact}
    {hsem : DmaTarget.Typed .hbm (.dma (wSem so sinb)) (.here (p := .tc) (wW o oinb) : DmaTarget nD τ sig .tc _ _ _)}
    {α : Type} {Q : α → sProp 𝕄} {k : PUnit → Prog (TpuEff nD τ sig (Elt F) Λ₀ .tc) α} :
    wFree c s W
      ⊢ iprop((wFlight c s W j -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (hW (k0_off1 c b) binb) (.here (wW o oinb)) (.dma (wSem so sinb)) hsrc hdst hsem) k) Q) := by
  subst hb ho hso
  have hD (f : Buf (Elt F) ((c : Thread nD τ).loc cc0_scratch1)) :
      iprop(((wSlot s).view.loc (c : Thread nD τ) ↦[wSet c s]{fullShare} ((wSlot s).view.write (Elt F) f ((jW c j).view.read (Elt F) W) Finset.univ))
        ∗ ((jW c j).view.loc (c : Thread nD τ) ↦[(jW c j).view.set]{Transfers.shareTok fullShare 2 s} W))
      ⊢ (iprop(wAt c s (chunk c W j) ∗ ((jW c j).view.loc (c : Thread nD τ) ↦[(jW c j).view.set]{Transfers.shareTok fullShare 2 s} W)) : sProp 𝕄) := by
    unfold wAt
    iintro ⟨H, Hs⟩
    isplitl [H]
    · iexists _
      isplitr
      · ipureintro; exact View.read_write_univ (v := (wSlot s).view) f _
      · iexact H
    iexact Hs
  unfold wFree wAny wSrc wFlight
  iintro ⟨⟨%f, Hd⟩, Hv, Hs⟩ Hk
  ihave Hs' := ((pointsTo_split_subset (Finset.subset_univ (jW c j).view.set)).1) $$ Hs
  icases Hs' with ⟨Hw, Hr⟩
  iapply (Transfers.wp_dmaLocal countersEmb 𝒱₀ (c : Thread nD τ) none (hsrc := hsrc) (hdst := hdst) (hsem := hsem) (src := jW c j) (dst := wSlot s) (fs := W) (fd := f) (Sd := wSet c s)
      (q := Transfers.shareTok fullShare 2 s) () NW rfl NW_pos (Finset.Subset.refl _)) $$ [Hw Hd Hv]
  · isplitl [Hw]; · iexact Hw
    isplitl [Hd] <;> iassumption
  iintro Hf
  iapply Hk
  isplitl [Hf]
  · iapply (Transfers.Flight_mono (EC := countersEmb) (c := (c : Thread nD τ)) (hD f))
    iexact Hf
  · iexact Hr

theorem lv_w (c : Dev nD) (s : Fin 2) (u : Unit) : lv ((c : Thread nD τ), .dma (wS s)) u = 0 := by fin_cases s <;> rfl

/-- Waiting for it. -/
theorem w_wait (c : Dev nD) (s : Fin 2) (j : Fin 8) (W : Buf (Elt F) ((c : Thread nD τ).loc main_arg1))
    (O : CellTallies nD τ sig Unit) (hO : ∀ g u, 0 < O g u → (∃ d, g = barCell d) ∨ ∃ d q, g = recvCell d q)
    {b : Fin 2 → ℕ} {o : Fin 3 → ℕ} {so : Fin 1 → ℕ} (hso : so = ![s.val])
    {binb : ∀ a, b a + S2048x1024.size a ≤ S2048x16384.size a} {oinb : ∀ a, o a + S1x2048x1024.size a ≤ S2x2048x1024.size a}
    {sinb : ∀ a, so a + S1.size a ≤ S2.size a}
    {hsrc : (hW b binb).view.WordExact} {hdst : (wW o oinb).view.WordExact}
    {α : Type} {Q : α → sProp 𝕄} {k : PUnit → Prog (TpuEff nD τ sig (Elt F) Λ₀ .tc) α} :
    iprop(levAts L lv ∗ owing c O ∗ wFlight c s W j)
      ⊢ iprop(((owing c O ∗ wFull c s W (chunk c W j)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (wSem so sinb) (hW b binb) (wW o oinb) hsrc hdst) k) Q) := by
  subst hso
  unfold wFlight owing wFull wSrc
  iintro ⟨#Hlev, ⟨%W₀, HO⟩, Hf, Hr⟩ Hk
  iapply (Transfers.wp_waitLocalO countersEmb 𝒱₀ (c : Thread nD τ) none (hsrc := hsrc) (hdst := hdst) () (N := NW) rfl) $$ [Hf HO]
  · isplitl [Hf]; · iexact Hf
    isplitl [HO]; · iexact HO
    iapply (mayWait_low c (.dma (wS s)) (fun u => lv_w c s u) O hO); iexact Hlev
  iintro ⟨⟨Hx, Hs⟩, Hv, HO⟩
  iapply Hk
  isplitl [HO]; · iexists _; iexact HO
  isplitl [Hx]; · iexact Hx
  isplitl [Hv]; · iexact Hv
  iapply ((pointsTo_split_subset (Finset.subset_univ (jW c j).view.set)).2)
  isplitl [Hs] <;> iassumption

/-! ## The loads -/

/-- The rows as a load reads them. -/
theorem x_load (c : Dev nD) (x : Buf (Elt F) ((c : Thread nD τ).loc cc0_scratch0)) {inb} {hl : xM.view.LoadsAt (Rect.unit (s := S1024x2048) ![0, 0] S1024x2048.size inb).toLoadRect}
    {α : Type} {Q : α → sProp 𝕄} {k : Vec F S1024x2048 .f32 → Prog (TpuEff nD τ sig (Elt F) Λ₀ .tc) α} :
    xHere c x ⊢ iprop((xHere c x -∗ wp frame (wpE (defs₀ (F := F)) 𝒱₀ (c : Thread nD τ) none) Set.univ (k x) Q)
        -∗ wp frame (wpE (defs₀ (F := F)) 𝒱₀ (c : Thread nD τ) none) Set.univ (.op (.load xM (Rect.unit (s := S1024x2048) ![0, 0] S1024x2048.size inb).toLoadRect hl) k) Q) := by
  unfold xHere
  have h : (((c : Thread nD τ).loc cc0_scratch0) ↦{fullShare} x)
      ⊢ iprop(((((c : Thread nD τ).loc cc0_scratch0) ↦{fullShare} x) -∗ wp frame (wpE (defs₀ (F := F)) 𝒱₀ (c : Thread nD τ) none) Set.univ
            (k (xM.view.readAt (Elt F) (Rect.unit (s := S1024x2048) ![0, 0] S1024x2048.size inb).toLoadRect x)) Q)
        -∗ wp frame (wpE (defs₀ (F := F)) 𝒱₀ (c : Thread nD τ) none) Set.univ (.op (.load xM (Rect.unit (s := S1024x2048) ![0, 0] S1024x2048.size inb).toLoadRect hl) k) Q) :=
    wp_load 𝒱₀ (c : Thread nD τ) none Set.univ (m := xM) (S := Finset.univ) (Finset.subset_univ _)
  have e : xM.view.readAt (Elt F) (Rect.unit (s := S1024x2048) ![0, 0] S1024x2048.size inb).toLoadRect x = x :=
    Memref.readAt_unit_zero (Elt F) cc0_scratch0 (by funext a; fin_cases a <;> rfl) inb x
  rwa [e] at h

/-- The labels as a load reads them. -/
theorem l_load (c : Dev nD) (l : Buf (Elt F) ((c : Thread nD τ).loc cc0_stg0_0)) {q : PosShare TreeShare} {inb} {hl : lM.view.LoadsAt (Rect.unit (s := S1024x1) ![0, 0] S1024x1.size inb).toLoadRect}
    {α : Type} {Q : α → sProp 𝕄} {k : Vec F S1024x1 .i32 → Prog (TpuEff nD τ sig (Elt F) Λ₀ .tc) α} :
    (((c : Thread nD τ).loc cc0_stg0_0) ↦{q} l)
      ⊢ iprop(((((c : Thread nD τ).loc cc0_stg0_0) ↦{q} l) -∗ wp frame (wpE (defs₀ (F := F)) 𝒱₀ (c : Thread nD τ) none) Set.univ (k l) Q)
        -∗ wp frame (wpE (defs₀ (F := F)) 𝒱₀ (c : Thread nD τ) none) Set.univ (.op (.load lM (Rect.unit (s := S1024x1) ![0, 0] S1024x1.size inb).toLoadRect hl) k) Q) := by
  have h : (((c : Thread nD τ).loc cc0_stg0_0) ↦{q} l)
      ⊢ iprop(((((c : Thread nD τ).loc cc0_stg0_0) ↦{q} l) -∗ wp frame (wpE (defs₀ (F := F)) 𝒱₀ (c : Thread nD τ) none) Set.univ
            (k (lM.view.readAt (Elt F) (Rect.unit (s := S1024x1) ![0, 0] S1024x1.size inb).toLoadRect l)) Q)
        -∗ wp frame (wpE (defs₀ (F := F)) 𝒱₀ (c : Thread nD τ) none) Set.univ (.op (.load lM (Rect.unit (s := S1024x1) ![0, 0] S1024x1.size inb).toLoadRect hl) k) Q) :=
    wp_load 𝒱₀ (c : Thread nD τ) none Set.univ (m := lM) (S := Finset.univ) (Finset.subset_univ _)
  have e : lM.view.readAt (Elt F) (Rect.unit (s := S1024x1) ![0, 0] S1024x1.size inb).toLoadRect l = l :=
    Memref.readAt_unit_zero (Elt F) cc0_stg0_0 (by funext a; fin_cases a <;> rfl) inb l
  rwa [e] at h

/-- A slot of the weight buffer as a load reads it. -/
theorem w_load (c : Dev nD) (s : Fin 2) (W : Buf (Elt F) ((c : Thread nD τ).loc main_arg1)) (w : Vec F S2048x1024 .f32) {o : Fin 3 → ℕ} (ho : o = ![s.val, 0, 0])
    {inb} {hl : wM.view.LoadsAt (Rect.unit (s := S2x2048x1024) o S1x2048x1024.size inb).toLoadRect}
    {α : Type} {Q : α → sProp 𝕄} {k : Vec F S1x2048x1024 .f32 → Prog (TpuEff nD τ sig (Elt F) Λ₀ .tc) α} :
    wFull c s W w
      ⊢ iprop((wFull c s W w -∗ wp frame (wpE (defs₀ (F := F)) 𝒱₀ (c : Thread nD τ) none) Set.univ (k (slab w)) Q)
        -∗ wp frame (wpE (defs₀ (F := F)) 𝒱₀ (c : Thread nD τ) none) Set.univ (.op (.load wM (Rect.unit (s := S2x2048x1024) o S1x2048x1024.size inb).toLoadRect hl) k) Q) := by
  subst ho
  unfold wFull wAt
  iintro ⟨⟨%f, %hf, H⟩, Hr⟩ Hk
  have hS : wM.view.setOn (Rect.unit (s := S2x2048x1024) ![s.val, 0, 0] S1x2048x1024.size inb).toLoadRect.set ⊆ wSet c s := by
    rw [show wM.view.setOn (Rect.unit (s := S2x2048x1024) ![s.val, 0, 0] S1x2048x1024.size inb).toLoadRect.set
      = (wM.access (Rect.unit (s := S2x2048x1024) ![s.val, 0, 0] S1x2048x1024.size inb) : View sig .tc _ _ _).set from (View.set_slice _ _).symm]
    exact (View.set_reshape _ _).symm.subset
  have h : (((c : Thread nD τ).loc cc0_scratch1) ↦[wSet c s]{fullShare} f)
      ⊢ iprop(((((c : Thread nD τ).loc cc0_scratch1) ↦[wSet c s]{fullShare} f) -∗ wp frame (wpE (defs₀ (F := F)) 𝒱₀ (c : Thread nD τ) none) Set.univ
            (k (wM.view.readAt (Elt F) (Rect.unit (s := S2x2048x1024) ![s.val, 0, 0] S1x2048x1024.size inb).toLoadRect f)) Q)
        -∗ wp frame (wpE (defs₀ (F := F)) 𝒱₀ (c : Thread nD τ) none) Set.univ (.op (.load wM (Rect.unit (s := S2x2048x1024) ![s.val, 0, 0] S1x2048x1024.size inb).toLoadRect hl) k) Q) :=
    wp_load 𝒱₀ (c : Thread nD τ) none Set.univ (m := wM) (S := wSet c s) hS
  rw [load_wSlot s inb f, hf] at h
  iapply h $$ H
  iintro H
  iapply Hk
  isplitl [H]
  · iexists f
    isplitr
    · ipureintro; exact hf
    · iexact H
  iexact Hr

end Cert.KernelIdeal.Plane

end
-- ==== Proof.Chunks.lean ====
/-
The parts of a device's run that no other device takes part in: clearing the receive buffer, and the eight chunks of the
weights against the rows, one after the other.
-/
module

public import proofs.«01_k».proof.Proof.Fetch
public import Idealize.ShloMosaic.Lib.Ring

@[expose] public section

noncomputable section

namespace Cert.KernelIdeal.Plane

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The parts, at the buffers and semaphores of the launch -/

abbrev part1 := k0_part1 (F := F) xhM (Memref.isWhole_whole _) whM (Memref.isWhole_whole _) lM (Memref.isWhole_whole _) oM (Memref.isWhole_whole _) xM (Memref.isWhole_whole _) wM (Memref.isWhole_whole _) rM (Memref.isWhole_whole _) tM (Memref.isWhole_whole _) cc0_scratch4 cc0_scratch5 cc0_scratch6 cc0_scratch7
abbrev part2 := k0_part2 (F := F) xhM (Memref.isWhole_whole _) whM (Memref.isWhole_whole _) lM (Memref.isWhole_whole _) oM (Memref.isWhole_whole _) xM (Memref.isWhole_whole _) wM (Memref.isWhole_whole _) rM (Memref.isWhole_whole _) tM (Memref.isWhole_whole _) cc0_scratch4 cc0_scratch5 cc0_scratch6 cc0_scratch7
abbrev part3 := k0_part3 (F := F) xhM (Memref.isWhole_whole _) whM (Memref.isWhole_whole _) lM (Memref.isWhole_whole _) oM (Memref.isWhole_whole _) xM (Memref.isWhole_whole _) wM (Memref.isWhole_whole _) rM (Memref.isWhole_whole _) tM (Memref.isWhole_whole _) cc0_scratch4 cc0_scratch5 cc0_scratch6 cc0_scratch7
abbrev part4 := k0_part4 (F := F) xhM (Memref.isWhole_whole _) whM (Memref.isWhole_whole _) lM (Memref.isWhole_whole _) oM (Memref.isWhole_whole _) xM (Memref.isWhole_whole _) wM (Memref.isWhole_whole _) rM (Memref.isWhole_whole _) tM (Memref.isWhole_whole _) cc0_scratch4 cc0_scratch5 cc0_scratch6 cc0_scratch7
abbrev part5 := k0_part5 (F := F) xhM (Memref.isWhole_whole _) whM (Memref.isWhole_whole _) lM (Memref.isWhole_whole _) oM (Memref.isWhole_whole _) xM (Memref.isWhole_whole _) wM (Memref.isWhole_whole _) rM (Memref.isWhole_whole _) tM (Memref.isWhole_whole _) cc0_scratch4 cc0_scratch5 cc0_scratch6 cc0_scratch7
abbrev part6 := k0_part6 (F := F) xhM (Memref.isWhole_whole _) whM (Memref.isWhole_whole _) lM (Memref.isWhole_whole _) oM (Memref.isWhole_whole _) xM (Memref.isWhole_whole _) wM (Memref.isWhole_whole _) rM (Memref.isWhole_whole _) tM (Memref.isWhole_whole _) cc0_scratch4 cc0_scratch5 cc0_scratch6 cc0_scratch7
abbrev part7 := k0_part7 (F := F) xhM (Memref.isWhole_whole _) whM (Memref.isWhole_whole _) lM (Memref.isWhole_whole _) oM (Memref.isWhole_whole _) xM (Memref.isWhole_whole _) wM (Memref.isWhole_whole _) rM (Memref.isWhole_whole _) tM (Memref.isWhole_whole _) cc0_scratch4 cc0_scratch5 cc0_scratch6 cc0_scratch7
abbrev part8 := k0_part8 (F := F) xhM (Memref.isWhole_whole _) whM (Memref.isWhole_whole _) lM (Memref.isWhole_whole _) oM (Memref.isWhole_whole _) xM (Memref.isWhole_whole _) wM (Memref.isWhole_whole _) rM (Memref.isWhole_whole _) tM (Memref.isWhole_whole _) cc0_scratch4 cc0_scratch5 cc0_scratch6 cc0_scratch7
abbrev part9 := k0_part9 (F := F) xhM (Memref.isWhole_whole _) whM (Memref.isWhole_whole _) lM (Memref.isWhole_whole _) oM (Memref.isWhole_whole _) xM (Memref.isWhole_whole _) wM (Memref.isWhole_whole _) rM (Memref.isWhole_whole _) tM (Memref.isWhole_whole _) cc0_scratch4 cc0_scratch5 cc0_scratch6 cc0_scratch7
abbrev part10 := k0_part10 (F := F) xhM (Memref.isWhole_whole _) whM (Memref.isWhole_whole _) lM (Memref.isWhole_whole _) oM (Memref.isWhole_whole _) xM (Memref.isWhole_whole _) wM (Memref.isWhole_whole _) rM (Memref.isWhole_whole _) tM (Memref.isWhole_whole _) cc0_scratch4 cc0_scratch5 cc0_scratch6 cc0_scratch7

variable (c : Dev nD) (x : Vec F S1024x2048 .f32) (W : Buf (Elt F) ((c : Thread nD τ).loc main_arg1)) (l : Vec F S1024x1 .i32)

/-- The labels in the device's own memory. -/
def lPts : sProp 𝕄 := ((c : Thread nD τ).loc cc0_stg0_0) ↦{fullShare} (l : Buf (Elt F) ((c : Thread nD τ).loc cc0_stg0_0))

/-- Chunk `j` as the loads of the weight buffer read it. -/
abbrev wv (j : Fin 8) : Vec F S1x2048x1024 .f32 := slab (chunk c W j)

omit [FloatOps F] in
/-- While only receive cells are owed, the waits for the local transfers may be made. -/
theorem OR_ok : ∀ g u, 0 < OR c g u → (∃ d, g = barCell d) ∨ ∃ d q, g = recvCell d q := fun g u h => .inr (OR_pos h)

/-- Starting the fetch of chunk `j` into a slot whose chunk has been read. -/
theorem w_next (s : Fin 2) (w : Vec F S2048x1024 .f32) (j : Fin 8)
    {b : BitVec 32} (hb : b = BitVec.ofNat 32 (1024 * j.val)) {o : Fin 3 → ℕ} (ho : o = ![s.val, 0, 0]) {so : Fin 1 → ℕ} (hso : so = ![s.val])
    {binb : ∀ a, k0_off1 c b a + S2048x1024.size a ≤ S2048x16384.size a} {oinb : ∀ a, o a + S1x2048x1024.size a ≤ S2x2048x1024.size a}
    {sinb : ∀ a, so a + S1.size a ≤ S2.size a}
    {hsrc : (hW (k0_off1 c b) binb).view.WordExact} {hdst : (wW o oinb).view.WordExact}
    {hsem : DmaTarget.Typed .hbm (.dma (wSem so sinb)) (.here (p := .tc) (wW o oinb) : DmaTarget nD τ sig .tc _ _ _)}
    {α : Type} {Q : α → sProp 𝕄} {k : PUnit → Prog (TpuEff nD τ sig (Elt F) Λ₀ .tc) α} :
    wFull c s W w
      ⊢ iprop((wFlight c s W j -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (hW (k0_off1 c b) binb) (.here (wW o oinb)) (.dma (wSem so sinb)) hsrc hdst hsem) k) Q) :=
  (wFull_free c s W w).trans (w_start c s j W hb ho hso)

/-- Waiting for chunk `j`, and the two loads that follow: the rows and the chunk. -/
theorem w_take (s : Fin 2) (j : Fin 8)
    {b : Fin 2 → ℕ} {o : Fin 3 → ℕ} (ho : o = ![s.val, 0, 0]) {o' : Fin 3 → ℕ} (ho' : o' = ![s.val, 0, 0]) {so : Fin 1 → ℕ} (hso : so = ![s.val])
    {binb : ∀ a, b a + S2048x1024.size a ≤ S2048x16384.size a} {oinb : ∀ a, o a + S1x2048x1024.size a ≤ S2x2048x1024.size a}
    {sinb : ∀ a, so a + S1.size a ≤ S2.size a}
    {hsrc : (hW b binb).view.WordExact} {hdst : (wW o oinb).view.WordExact}
    {xinb} {hlx : xM.view.LoadsAt (Rect.unit (s := S1024x2048) ![0, 0] S1024x2048.size xinb).toLoadRect}
    {inb} {hl : wM.view.LoadsAt (Rect.unit (s := S2x2048x1024) o' S1x2048x1024.size inb).toLoadRect}
    {α : Type} {Q : α → sProp 𝕄} {k : Vec F S1024x2048 .f32 → Vec F S1x2048x1024 .f32 → Prog (TpuEff nD τ sig (Elt F) Λ₀ .tc) α} :
    iprop(levAts L lv ∗ owing c (OR c) ∗ xHere c x ∗ wFlight c s W j)
      ⊢ iprop(((owing c (OR c) ∗ xHere c x ∗ wFull c s W (chunk c W j))
            -∗ wp frame (wpE (defs₀ (F := F)) 𝒱₀ (c : Thread nD τ) none) Set.univ (k x (wv c W j)) Q)
          -∗ wp frame (wpE (defs₀ (F := F)) 𝒱₀ (c : Thread nD τ) none) Set.univ (.op (.waitDma2 (wSem so sinb) (hW b binb) (wW o oinb) hsrc hdst) fun _ =>
              .op (.load xM (Rect.unit (s := S1024x2048) ![0, 0] S1024x2048.size xinb).toLoadRect hlx) fun v =>
              .op (.load wM (Rect.unit (s := S2x2048x1024) o' S1x2048x1024.size inb).toLoadRect hl) (k v)) Q) := by
  iintro ⟨#Hlev, HO, Hx, Hw⟩ Hk
  iapply (w_wait c s j W (OR c) (OR_ok c) hso) $$ [HO Hw]
  · isplitr; · iexact Hlev
    isplitl [HO] <;> iassumption
  iintro ⟨HO, Hw⟩
  iapply (x_load c x) $$ Hx
  iintro Hx
  iapply (w_load c s W (chunk c W j) ho') $$ Hw
  iintro Hw
  iapply Hk
  isplitl [HO]; · iexact HO
  isplitl [Hx] <;> iassumption

/-- The labels' load, at what `lPts` holds. -/
theorem l_take {inb} {hl : lM.view.LoadsAt (Rect.unit (s := S1024x1) ![0, 0] S1024x1.size inb).toLoadRect}
    {α : Type} {Q : α → sProp 𝕄} {k : Vec F S1024x1 .i32 → Prog (TpuEff nD τ sig (Elt F) Λ₀ .tc) α} :
    lPts c l ⊢ iprop((lPts c l -∗ wp frame (wpE (defs₀ (F := F)) 𝒱₀ (c : Thread nD τ) none) Set.univ (k l) Q)
        -∗ wp frame (wpE (defs₀ (F := F)) 𝒱₀ (c : Thread nD τ) none) Set.univ (.op (.load lM (Rect.unit (s := S1024x1) ![0, 0] S1024x1.size inb).toLoadRect hl) k) Q) :=
  l_load c l

/-! ## Clearing the receive buffer, and the first two transfers -/

/-- The receive buffer, whole. -/
def rPts (f : Buf (Elt F) ((c : Thread nD τ).loc cc0_scratch2)) : sProp 𝕄 := ((c : Thread nD τ).loc cc0_scratch2) ↦{fullShare} f

omit [FloatOps F] in
/-- It is its four slots. -/
theorem rPts_slots (f : Buf (Elt F) ((c : Thread nD τ).loc cc0_scratch2)) : rPts c f = bigSep Finset.univ (fun p => slotPts c p f) := by
  unfold rPts slotPts
  exact Ring.pointsTo_blocks (rSet c) (fun p q h => rSlot_disjoint p q h) (rSlot_cover c) f

/-- The receive buffer is cleared, the rows and the first chunk set out. -/
theorem run1 (x : Buf (Elt F) ((c : Thread nD τ).loc main_arg0)) (f : Buf (Elt F) ((c : Thread nD τ).loc cc0_scratch2)) (g : Buf (Elt F) ((c : Thread nD τ).loc cc0_scratch0)) (Kt) :
    iprop((rPts c f ∗ xSrc c x ∗ xHere c g ∗ semVal ((c : Thread nD τ), .dma xS) 0 ∗ wFree c 0 W)
        ∗ ((rPts c k0_pay2 ∗ xFlight c x ∗ wFlight c 0 W 0) -∗ Kt ⟨c, Scalar.remsi (Scalar.divsi (Dev.word c) 4#32) 2#32, Scalar.remsi (Scalar.divsi (Dev.word c) 1#32) 4#32,
            Scalar.addi (Scalar.muli (Scalar.remsi (Scalar.divsi (Dev.word c) 8#32) 2#32) 2#32) (Scalar.remsi (Scalar.divsi (Dev.word c) 4#32) 2#32),
            Scalar.muli (Scalar.remsi (Scalar.divsi (Dev.word c) 8#32) 2#32) 8192#32⟩))
      ⊢ wp frame (wpE (defs₀ (F := F)) 𝒱₀ (c : Thread nD τ) none) Set.univ (part1 (F := F)) Kt := by
  simp only [part1, k0_part1_eq_skeleton]; unfold k0_part1_skel
  simp only [Prog.lift, Prog.bind_op, Prog.bind_ret, Prog.pure_eq_ret, wp_deviceId]
  have hw (f w : Buf (Elt F) ((c : Thread nD τ).loc cc0_scratch2)) :
      (rM.access (Rect.unit (s := S4x1024x2) ![0, 0, 0] S4x1024x2.size inb_S4x1024x2_S4x1024x2_0_0_0) : View sig .tc _ _ _).write (Elt F) f w Finset.univ = w :=
    Memref.write_access_unit_zero_univ (Elt F) cc0_scratch2 (by funext a; fin_cases a <;> rfl) _ f w
  unfold rPts
  iintro ⟨⟨Hr, Hs, Hx, Hv, Hw0⟩, Hk⟩
  iapply (wp_load 𝒱₀ (c : Thread nD τ) none Set.univ (m := rM) (Finset.subset_univ _)) $$ Hr; iintro Hr
  iapply (wp_store 𝒱₀ (c : Thread nD τ) none Set.univ (m := rM) (r := Rect.unit (s := S4x1024x2) ![0, 0, 0] S4x1024x2.size inb_S4x1024x2_S4x1024x2_0_0_0)
    (Mk := Finset.univ) (Finset.subset_univ _)) $$ Hr; iintro Hr
  rw [hw]
  iapply (x_start c x g) $$ [Hs Hx Hv]
  · isplitl [Hs]; · iexact Hs
    isplitl [Hx] <;> iassumption
  iintro Hx
  iapply (w_start c 0 0 W (by decide) rfl rfl) $$ Hw0; iintro Hw0
  rw [wp_ret]; imodintro
  iapply Hk
  isplitl [Hr]; · iexact Hr
  isplitl [Hx] <;> iassumption

/-! ## The chunks -/

/-- Chunk 0 is added up, chunk 2 sets out, chunk 1 is read. -/
theorem run3 (v48 : BitVec 32) (v49 : IVec S1024x1024 32) (v50 v51 : FVec F S1024x1 .f32) (Kt) :
    iprop((levAts L lv ∗ owing c (OR c) ∗ xHere c x ∗ lPts c l ∗ wFull c 0 W (chunk c W 0) ∗ wFlight c 1 W 1)
        ∗ ((owing c (OR c) ∗ xHere c x ∗ lPts c l ∗ wFlight c 0 W 2 ∗ wFull c 1 W (chunk c W 1)) -∗ Kt ⟨k0_pay6 v50 x (wv c W 0), k0_pay7 v48 v49 v51 x (wv c W 0) l, x, k0_pay8 (wv c W 1), constant S1024x1024 .f32 0x00000000#32⟩))
      ⊢ wp frame (wpE (defs₀ (F := F)) 𝒱₀ (c : Thread nD τ) none) Set.univ (part3 (F := F) c v48 v49 v50 v51 x) Kt := by
  simp only [part3, k0_part3_eq_skeleton]; unfold k0_part3_skel
  simp only [Prog.lift, Prog.bind_op, Prog.bind_ret, Prog.pure_eq_ret, wp_deviceId]
  iintro ⟨⟨#Hlev, HO, Hx, Hl, Hw0, Hw1⟩, Hk⟩
  iapply (w_load c 0 W _ rfl) $$ Hw0; iintro Hw0
  iapply (w_next c W 0 _ 2 (by decide) rfl rfl) $$ Hw0; iintro Hw0
  iapply (l_take c l) $$ Hl; iintro Hl
  iapply (w_take c x W 1 1 rfl rfl rfl) $$ [HO Hx Hw1]
  · isplitr; · iexact Hlev
    isplitl [HO]; · iexact HO
    isplitl [Hx] <;> iassumption
  iintro ⟨HO, Hx, Hw1⟩
  rw [wp_ret]; imodintro
  iapply Hk
  isplitl [HO]; · iexact HO
  isplitl [Hx]; · iexact Hx
  isplitl [Hl]; · iexact Hl
  isplitl [Hw0] <;> iassumption

/-- Chunk 1 is added up, chunk 3 sets out, chunk 2 is read. -/
theorem run4 (v48 : BitVec 32) (v49 : IVec S1024x1024 32) (v69 v81 : FVec F S1024x1 .f32) (y : Vec F S1024x2048 .f32) (v89 : FVec F S2048x1024 .f32) (z : FVec F S1024x1024 .f32) (Kt) :
    iprop((levAts L lv ∗ owing c (OR c) ∗ xHere c x ∗ lPts c l ∗ wFlight c 0 W 2 ∗ wFull c 1 W (chunk c W 1))
        ∗ ((owing c (OR c) ∗ xHere c x ∗ lPts c l ∗ wFull c 0 W (chunk c W 2) ∗ wFlight c 1 W 3) -∗ Kt ⟨k0_pay10 v69 y v89 z, k0_pay11 v48 v49 v81 y v89 z l, k0_pay12 x (wv c W 2)⟩))
      ⊢ wp frame (wpE (defs₀ (F := F)) 𝒱₀ (c : Thread nD τ) none) Set.univ (part4 (F := F) c v48 v49 v69 v81 y v89 z) Kt := by
  simp only [part4, k0_part4_eq_skeleton]; unfold k0_part4_skel
  simp only [Prog.lift, Prog.bind_op, Prog.bind_ret, Prog.pure_eq_ret, wp_deviceId]
  iintro ⟨⟨#Hlev, HO, Hx, Hl, Hw0, Hw1⟩, Hk⟩
  iapply (w_next c W 1 _ 3 (by decide) rfl rfl) $$ Hw1; iintro Hw1
  iapply (l_take c l) $$ Hl; iintro Hl
  iapply (w_take c x W 0 2 rfl rfl rfl) $$ [HO Hx Hw0]
  · isplitr; · iexact Hlev
    isplitl [HO]; · iexact HO
    isplitl [Hx] <;> iassumption
  iintro ⟨HO, Hx, Hw0⟩
  rw [wp_ret]; imodintro
  iapply Hk
  isplitl [HO]; · iexact HO
  isplitl [Hx]; · iexact Hx
  isplitl [Hl]; · iexact Hl
  isplitl [Hw0] <;> iassumption

/-- Chunk 2 is added up, chunks 4 and 5 set out, chunk 3 is read. -/
theorem run5 (v48 : BitVec 32) (v49 : IVec S1024x1024 32) (v99 v111 : FVec F S1024x1 .f32) (v120 : FVec F S1024x1024 .f32) (Kt) :
    iprop((levAts L lv ∗ owing c (OR c) ∗ xHere c x ∗ lPts c l ∗ wFull c 0 W (chunk c W 2) ∗ wFlight c 1 W 3)
        ∗ ((owing c (OR c) ∗ xHere c x ∗ lPts c l ∗ wFlight c 0 W 4 ∗ wFlight c 1 W 5) -∗ Kt ⟨k0_pay13 v99 v120, k0_pay14 v48 v49 v111 v120 l, k0_pay15 x (wv c W 3)⟩))
      ⊢ wp frame (wpE (defs₀ (F := F)) 𝒱₀ (c : Thread nD τ) none) Set.univ (part5 (F := F) c v48 v49 v99 v111 v120) Kt := by
  simp only [part5, k0_part5_eq_skeleton]; unfold k0_part5_skel
  simp only [Prog.lift, Prog.bind_op, Prog.bind_ret, Prog.pure_eq_ret, wp_deviceId]
  iintro ⟨⟨#Hlev, HO, Hx, Hl, Hw0, Hw1⟩, Hk⟩
  iapply (w_next c W 0 _ 4 (by decide) rfl rfl) $$ Hw0; iintro Hw0
  iapply (l_take c l) $$ Hl; iintro Hl
  iapply (w_take c x W 1 3 rfl rfl rfl) $$ [HO Hx Hw1]
  · isplitr; · iexact Hlev
    isplitl [HO]; · iexact HO
    isplitl [Hx] <;> iassumption
  iintro ⟨HO, Hx, Hw1⟩
  iapply (w_next c W 1 _ 5 (by decide) rfl rfl) $$ Hw1; iintro Hw1
  rw [wp_ret]; imodintro
  iapply Hk
  isplitl [HO]; · iexact HO
  isplitl [Hx]; · iexact Hx
  isplitl [Hl]; · iexact Hl
  isplitl [Hw0] <;> iassumption

/-- Chunk 3 is added up, chunk 4 is read, chunk 6 sets out. -/
theorem run6 (v48 : BitVec 32) (v49 : IVec S1024x1024 32) (v129 v141 : FVec F S1024x1 .f32) (v150 : FVec F S1024x1024 .f32) (Kt) :
    iprop((levAts L lv ∗ owing c (OR c) ∗ xHere c x ∗ lPts c l ∗ wFlight c 0 W 4 ∗ wFlight c 1 W 5)
        ∗ ((owing c (OR c) ∗ xHere c x ∗ lPts c l ∗ wFlight c 0 W 6 ∗ wFlight c 1 W 5) -∗ Kt ⟨k0_pay16 v48 v49 v141 v150 l, k0_pay17 x (wv c W 4), k0_pay18 v129 v150 x (wv c W 4)⟩))
      ⊢ wp frame (wpE (defs₀ (F := F)) 𝒱₀ (c : Thread nD τ) none) Set.univ (part6 (F := F) c v48 v49 v129 v141 v150) Kt := by
  simp only [part6, k0_part6_eq_skeleton]; unfold k0_part6_skel
  simp only [Prog.lift, Prog.bind_op, Prog.bind_ret, Prog.pure_eq_ret, wp_deviceId]
  iintro ⟨⟨#Hlev, HO, Hx, Hl, Hw0, Hw1⟩, Hk⟩
  iapply (l_take c l) $$ Hl; iintro Hl
  iapply (w_take c x W 0 4 rfl rfl rfl) $$ [HO Hx Hw0]
  · isplitr; · iexact Hlev
    isplitl [HO]; · iexact HO
    isplitl [Hx] <;> iassumption
  iintro ⟨HO, Hx, Hw0⟩
  iapply (w_next c W 0 _ 6 (by decide) rfl rfl) $$ Hw0; iintro Hw0
  rw [wp_ret]; imodintro
  iapply Hk
  isplitl [HO]; · iexact HO
  isplitl [Hx]; · iexact Hx
  isplitl [Hl]; · iexact Hl
  isplitl [Hw0] <;> iassumption

/-- Chunk 4 is added up, chunk 5 is read, chunk 7 sets out. -/
theorem run7 (v48 : BitVec 32) (v49 : IVec S1024x1024 32) (v171 : FVec F S1024x1 .f32) (v180 : FVec F S1024x1024 .f32) (v189 : FVec F S1024x1 .f32) (Kt) :
    iprop((levAts L lv ∗ owing c (OR c) ∗ xHere c x ∗ lPts c l ∗ wFlight c 0 W 6 ∗ wFlight c 1 W 5)
        ∗ ((owing c (OR c) ∗ xHere c x ∗ lPts c l ∗ wFlight c 0 W 6 ∗ wFlight c 1 W 7) -∗ Kt ⟨k0_pay19 v48 v49 v171 v180 l, k0_pay20 x (wv c W 5), k0_pay21 v189 x (wv c W 5), k0_pay22 l, k0_pay23 v48⟩))
      ⊢ wp frame (wpE (defs₀ (F := F)) 𝒱₀ (c : Thread nD τ) none) Set.univ (part7 (F := F) c v48 v49 v171 v180 v189) Kt := by
  simp only [part7, k0_part7_eq_skeleton]; unfold k0_part7_skel
  simp only [Prog.lift, Prog.bind_op, Prog.bind_ret, Prog.pure_eq_ret, wp_deviceId]
  iintro ⟨⟨#Hlev, HO, Hx, Hl, Hw0, Hw1⟩, Hk⟩
  iapply (l_take c l) $$ Hl; iintro Hl
  iapply (w_take c x W 1 5 rfl rfl rfl) $$ [HO Hx Hw1]
  · isplitr; · iexact Hlev
    isplitl [HO]; · iexact HO
    isplitl [Hx] <;> iassumption
  iintro ⟨HO, Hx, Hw1⟩
  iapply (w_next c W 1 _ 7 (by decide) rfl rfl) $$ Hw1; iintro Hw1
  iapply (l_take c l) $$ Hl; iintro Hl
  rw [wp_ret]; imodintro
  iapply Hk
  isplitl [HO]; · iexact HO
  isplitl [Hx]; · iexact Hx
  isplitl [Hl]; · iexact Hl
  isplitl [Hw0] <;> iassumption

/-- Chunk 5 is added up, chunk 6 is read and added up. -/
theorem run8 (v48 : BitVec 32) (v49 : IVec S1024x1024 32) (v201 : FVec F S1024x1 .f32) (v210 : FVec F S1024x1024 .f32) (v219 : FVec F S1024x1 .f32) (v221 v223 : IVec S1024x1 32) (Kt) :
    iprop((levAts L lv ∗ owing c (OR c) ∗ xHere c x ∗ lPts c l ∗ wFlight c 0 W 6 ∗ wFlight c 1 W 7)
        ∗ ((owing c (OR c) ∗ xHere c x ∗ lPts c l ∗ wFull c 0 W (chunk c W 6) ∗ wFlight c 1 W 7) -∗ Kt ⟨k0_pay25 v219 x (wv c W 6), k0_pay26 v48 v49 v201 v210 v221 v223 x (wv c W 6) l⟩))
      ⊢ wp frame (wpE (defs₀ (F := F)) 𝒱₀ (c : Thread nD τ) none) Set.univ (part8 (F := F) c v48 v49 v201 v210 v219 v221 v223) Kt := by
  simp only [part8, k0_part8_eq_skeleton]; unfold k0_part8_skel
  simp only [Prog.lift, Prog.bind_op, Prog.bind_ret, Prog.pure_eq_ret, wp_deviceId]
  iintro ⟨⟨#Hlev, HO, Hx, Hl, Hw0, Hw1⟩, Hk⟩
  iapply (w_take c x W 0 6 rfl rfl rfl) $$ [HO Hx Hw0]
  · isplitr; · iexact Hlev
    isplitl [HO]; · iexact HO
    isplitl [Hx] <;> iassumption
  iintro ⟨HO, Hx, Hw0⟩
  iapply (l_take c l) $$ Hl; iintro Hl
  rw [wp_ret]; imodintro
  iapply Hk
  isplitl [HO]; · iexact HO
  isplitl [Hx]; · iexact Hx
  isplitl [Hl]; · iexact Hl
  isplitl [Hw0] <;> iassumption

end Cert.KernelIdeal.Plane

end
-- ==== Proof.Exchange.lean ====
/-
The parts of a device's run in which the plane takes part: the signals and the barrier, the sends of the two columns and the
waits for the others', and with them the whole run.
-/
module

public import proofs.«01_k».proof.Proof.Chunks

@[expose] public section

noncomputable section

namespace Cert.KernelIdeal.Plane

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (st : Dev nD → Vec F S1024x2 .f32) (K : Dev nD × CI → ℕ)

/-! ## Which place each guard, target and offset is about -/

theorem cond1 (c : Dev nD) : k0_cond1 c = 1#1 ↔ (0 : Fin 4) ≠ slot c := by revert c; decide +kernel
theorem cond5 (c : Dev nD) : k0_cond5 c = 1#1 ↔ (0 : Fin 4) ≠ slot c := by revert c; decide +kernel
theorem cond9 (c : Dev nD) : k0_cond9 c = 1#1 ↔ (0 : Fin 4) ≠ slot c := by revert c; decide +kernel
theorem cond2 (c : Dev nD) : k0_cond2 c = 1#1 ↔ (1 : Fin 4) ≠ slot c := by revert c; decide +kernel
theorem cond6 (c : Dev nD) : k0_cond6 c = 1#1 ↔ (1 : Fin 4) ≠ slot c := by revert c; decide +kernel
theorem cond10 (c : Dev nD) : k0_cond10 c = 1#1 ↔ (1 : Fin 4) ≠ slot c := by revert c; decide +kernel
theorem cond3 (c : Dev nD) : k0_cond3 c = 1#1 ↔ (2 : Fin 4) ≠ slot c := by revert c; decide +kernel
theorem cond7 (c : Dev nD) : k0_cond7 c = 1#1 ↔ (2 : Fin 4) ≠ slot c := by revert c; decide +kernel
theorem cond11 (c : Dev nD) : k0_cond11 c = 1#1 ↔ (2 : Fin 4) ≠ slot c := by revert c; decide +kernel
theorem cond4 (c : Dev nD) : k0_cond4 c = 1#1 ↔ (3 : Fin 4) ≠ slot c := by revert c; decide +kernel
theorem cond8 (c : Dev nD) : k0_cond8 c = 1#1 ↔ (3 : Fin 4) ≠ slot c := by revert c; decide +kernel
theorem cond12 (c : Dev nD) : k0_cond12 c = 1#1 ↔ (3 : Fin 4) ≠ slot c := by revert c; decide +kernel
theorem dev1 (c : Dev nD) (h : k0_dev1 c < nD) : (⟨k0_dev1 c, h⟩ : Dev nD) = peer c 0 := Fin.ext (k0_dev1_eq c)
theorem dev5 (c : Dev nD) (h : k0_dev5 c < nD) : (⟨k0_dev5 c, h⟩ : Dev nD) = peer c 0 := Fin.ext (k0_dev5_eq c)
theorem dev2 (c : Dev nD) (h : k0_dev2 c < nD) : (⟨k0_dev2 c, h⟩ : Dev nD) = peer c 1 := Fin.ext (k0_dev2_eq c)
theorem dev6 (c : Dev nD) (h : k0_dev6 c < nD) : (⟨k0_dev6 c, h⟩ : Dev nD) = peer c 1 := Fin.ext (k0_dev6_eq c)
theorem dev3 (c : Dev nD) (h : k0_dev3 c < nD) : (⟨k0_dev3 c, h⟩ : Dev nD) = peer c 2 := Fin.ext (k0_dev3_eq c)
theorem dev7 (c : Dev nD) (h : k0_dev7 c < nD) : (⟨k0_dev7 c, h⟩ : Dev nD) = peer c 2 := Fin.ext (k0_dev7_eq c)
theorem dev4 (c : Dev nD) (h : k0_dev4 c < nD) : (⟨k0_dev4 c, h⟩ : Dev nD) = peer c 3 := Fin.ext (k0_dev4_eq c)
theorem dev8 (c : Dev nD) (h : k0_dev8 c < nD) : (⟨k0_dev8 c, h⟩ : Dev nD) = peer c 3 := Fin.ext (k0_dev8_eq c)

theorem off_slot1 (c : Dev nD) : (![2 * (c.val / 8) + ((c.val / 4) % 2)] : Fin 1 → ℕ) = ![(slot c).val] := by rw [slot_val]
theorem off_slot3 (c : Dev nD) : (![2 * (c.val / 8) + ((c.val / 4) % 2), 0, 0] : Fin 3 → ℕ) = ![(slot c).val, 0, 0] := by rw [slot_val]

variable (c : Dev nD) (x : Vec F S1024x2048 .f32) (W : Buf (Elt F) ((c : Thread nD τ).loc main_arg1)) (l : Vec F S1024x1 .i32)

/-! ## The signals, the barrier, and the first chunk -/

/-- The first vocabulary column as the program's parts hand it on, and the row of lane numbers. -/
abbrev lanes : IVec S1024x1024 32 := iota .tc S1024x1024 32 [1] iota_S1024x1024_d1_w32

/-- Chunk 1 sets out, the three other places are signalled, the three others' signals waited for; the rows and chunk 0 have arrived. -/
theorem run2 (xs : Buf (Elt F) ((c : Thread nD τ).loc main_arg0)) (v5 v8 v10 v11 : BitVec 32) (Kt) :
    iprop((records st K ∗ levAts L lv ∗ owing c (O₀ c) ∗ ready c 0 ∗ ready c 1 ∗ ready c 2 ∗ ready c 3
          ∗ atPos ER (barCell c) 0 ∅ 0 ∗ cred (tallyAt (barCell c) () 3) ∗ xFlight c xs ∗ wFlight c 0 W 0 ∗ wFree c 1 W)
        ∗ ((owing c (OR c) ∗ semVal (barCell c) 0 ∗ bigSep Finset.univ (fun p => but (slot c) p (barPay c p))
              ∗ signalled c 0 ∗ signalled c 1 ∗ signalled c 2 ∗ signalled c 3
              ∗ semVal ((c : Thread nD τ), .dma xS) 0 ∗ xHere c xs ∗ xSrc c xs ∗ wFull c 0 W (chunk c W 0) ∗ wFlight c 1 W 1)
            -∗ Kt ⟨Scalar.addi (Scalar.muli v5 16384#32) v11, lanes, k0_pay3, k0_pay4, xs⟩))
      ⊢ wp frame (wpE (defs₀ (F := F)) 𝒱₀ (c : Thread nD τ) none) Set.univ (part2 (F := F) c v5 v8 v10 v11) Kt := by
  simp only [part2, k0_part2_eq_skeleton]; unfold k0_part2_skel
  simp only [semSignalWord, semWaitWord, Prog.lift, Prog.bind_op, Prog.bind_ret, Prog.pure_eq_ret, wp_deviceId]
  iintro ⟨⟨#Hrec, #Hlev, HO, Hr0, Hr1, Hr2, Hr3, Hat, Hcr, Hx, Hw0, Hw1⟩, Hk⟩
  iapply (w_start c 1 1 W (by decide) rfl rfl) $$ Hw1; iintro Hw1
  rw [show O₀ c = (((OR c + oB c 3) + oB c 2) + oB c 1) + oB c 0 from rfl]
  iapply (signal_step st K c 0 (cond1 c) (fun h => ⟨k0_dev1 c, k0_dev1_lt c h⟩) (fun h => dev1 c _)) $$ [HO Hr0]
  · isplitr; · iexact Hrec
    isplitl [HO] <;> iassumption
  iintro ⟨HO, Hr0⟩
  iapply (signal_step st K c 1 (cond2 c) (fun h => ⟨k0_dev2 c, k0_dev2_lt c h⟩) (fun h => dev2 c _)) $$ [HO Hr1]
  · isplitr; · iexact Hrec
    isplitl [HO] <;> iassumption
  iintro ⟨HO, Hr1⟩
  iapply (signal_step st K c 2 (cond3 c) (fun h => ⟨k0_dev3 c, k0_dev3_lt c h⟩) (fun h => dev3 c _)) $$ [HO Hr2]
  · isplitr; · iexact Hrec
    isplitl [HO] <;> iassumption
  iintro ⟨HO, Hr2⟩
  iapply (signal_step st K c 3 (cond4 c) (fun h => ⟨k0_dev4 c, k0_dev4_lt c h⟩) (fun h => dev4 c _)) $$ [HO Hr3]
  · isplitr; · iexact Hrec
    isplitl [HO] <;> iassumption
  iintro ⟨HO, Hr3⟩
  iapply (barrier_step st K c) $$ [HO Hat Hcr]
  · isplitr; · iexact Hrec
    isplitr; · iexact Hlev
    isplitl [HO]; · iexact HO
    isplitl [Hat] <;> iassumption
  iintro ⟨HO, Hz, Hpay⟩
  iapply (x_wait c xs (OR c) (OR_ok c)) $$ [HO Hx]
  · isplitr; · iexact Hlev
    isplitl [HO] <;> iassumption
  iintro ⟨HO, Hzx, Hx, Hs⟩
  iapply (w_wait c 0 0 W (OR c) (OR_ok c) rfl) $$ [HO Hw0]
  · isplitr; · iexact Hlev
    isplitl [HO] <;> iassumption
  iintro ⟨HO, Hw0⟩
  iapply (x_load c xs) $$ Hx; iintro Hx
  rw [wp_ret]; imodintro
  iapply Hk
  isplitl [HO]; · iexact HO
  isplitl [Hz]; · iexact Hz
  isplitl [Hpay]; · iexact Hpay
  isplitl [Hr0]; · iexact Hr0
  isplitl [Hr1]; · iexact Hr1
  isplitl [Hr2]; · iexact Hr2
  isplitl [Hr3]; · iexact Hr3
  isplitl [Hzx]; · iexact Hzx
  isplitl [Hx]; · iexact Hx
  isplitl [Hs]; · iexact Hs
  isplitl [Hw0] <;> iassumption

/-! ## The two columns, and the sends -/

/-- The buffer of the two columns, and the share of it no send reads. -/
def tPts (f : Buf (Elt F) ((c : Thread nD τ).loc cc0_scratch3)) : sProp 𝕄 := ((c : Thread nD τ).loc cc0_scratch3) ↦{fullShare} f
def tRest (f : Buf (Elt F) ((c : Thread nD τ).loc cc0_scratch3)) : sProp 𝕄 := tM.view.loc (c : Thread nD τ) ↦[tM.view.set]{Transfers.shareDrop fullShare 4} f

omit [FloatOps F] in
/-- It is dealt out: a share to each place's send, and the rest. -/
theorem tPts_deal (f : Buf (Elt F) ((c : Thread nD τ).loc cc0_scratch3)) :
    tPts c f ⊣⊢ iprop(tRest c f ∗ statPts c 0 f ∗ statPts c 1 f ∗ statPts c 2 f ∗ statPts c 3 f) := by
  have h := Transfers.pointsTo_toks (ℓ := (c : Thread nD τ).loc cc0_scratch3) (S := Finset.univ) (f := f) (Ix := Unit) (Name := ℕ) (U := UU) (Lvl := ℕ) fullShare 4
  rw [bigSep_four] at h
  unfold tPts tRest statPts
  rw [show tM.view.set = Finset.univ from View.set_whole cc0_scratch3]
  exact h

/-- Chunk 7 is read and added up, the two columns stored, and sent to place 0. -/
theorem run9 (t : Buf (Elt F) ((c : Thread nD τ).loc cc0_scratch3)) (v8 v10 v48 : BitVec 32) (v49 : IVec S1024x1024 32) (v244 v256 : FVec F S1024x1 .f32)
    (hst : (fun i : S1024x2.Idx => if (i 1).val = 0 then k0_pay28 v244 x (wv c W 7) (ix2 (i 0) (0 : Fin 1))
      else k0_pay29 v48 v49 v256 x (wv c W 7) l (ix2 (i 0) (0 : Fin 1))) = st c) (Kt : _ → sProp 𝕄) :
    iprop((records st K ∗ levAts L lv ∗ owing c (OR c) ∗ xHere c x ∗ lPts c l ∗ wFlight c 1 W 7 ∗ tPts c t ∗ signalled c 0 ∗ but (slot c) 0 (barPay c 0))
        ∗ ∀ r, ((owing c (oR c 3 + oR c 2 + oR c 1) ∗ xHere c x ∗ lPts c l ∗ wFull c 1 W (chunk c W 7) ∗ sent st c 0
              ∗ tRest c (st c) ∗ statPts c 1 (st c) ∗ statPts c 2 (st c) ∗ statPts c 3 (st c))
            -∗ Kt r))
      ⊢ wp frame (wpE (defs₀ (F := F)) 𝒱₀ (c : Thread nD τ) none) Set.univ (part9 (F := F) c v8 v10 v48 v49 v244 v256) Kt := by
  simp only [part9, k0_part9_eq_skeleton]; unfold k0_part9_skel
  simp only [Prog.lift, Prog.bind_op, Prog.bind_ret, Prog.pure_eq_ret, wp_deviceId]
  iintro ⟨⟨#Hrec, #Hlev, HO, Hx, Hl, Hw1, Ht, Hr0, Hb0⟩, Hk⟩
  iapply (w_take c x W 1 7 rfl rfl rfl) $$ [HO Hx Hw1]
  · isplitr; · iexact Hlev
    isplitl [HO]; · iexact HO
    isplitl [Hx] <;> iassumption
  iintro ⟨HO, Hx, Hw1⟩
  iapply (l_take c l) $$ Hl; iintro Hl
  unfold tPts
  iapply (wp_load 𝒱₀ (c : Thread nD τ) none Set.univ (m := tM) (Finset.subset_univ _)) $$ Ht; iintro Ht
  iapply (wp_store 𝒱₀ (c : Thread nD τ) none Set.univ (m := tM) (r := col0) (Mk := Finset.univ) (Finset.subset_univ _)) $$ Ht; iintro Ht
  iapply (wp_load 𝒱₀ (c : Thread nD τ) none Set.univ (m := tM) (Finset.subset_univ _)) $$ Ht; iintro Ht
  iapply (wp_store 𝒱₀ (c : Thread nD τ) none Set.univ (m := tM) (r := col1) (Mk := Finset.univ) (Finset.subset_univ _)) $$ Ht; iintro Ht
  rw [write_cols, hst]
  ihave Hd := ((tPts_deal c (st c)).1) $$ [Ht]
  · unfold tPts; iexact Ht
  icases Hd with ⟨Hrest, Hs0, Hs1, Hs2, Hs3⟩
  rw [show OR c = ((oR c 3 + oR c 2) + oR c 1) + oR c 0 from rfl]
  iapply (send_step st K c 0 (cond5 c) (fun h => ⟨k0_dev5 c, k0_dev5_lt c h⟩) (fun h => dev5 c _) rfl
    ((k0_off2_eq c).trans (off_slot1 c)) ((k0_off3_eq c).trans (off_slot3 c))) $$ [HO Hr0 Hb0 Hs0]
  · isplitr; · iexact Hrec
    isplitl [HO]; · iexact HO
    isplitl [Hr0]; · iexact Hr0
    isplitl [Hb0] <;> iassumption
  iintro ⟨HO, Hr0⟩
  rw [wp_ret]; imodintro
  iapply Hk
  isplitl [HO]; · iexact HO
  isplitl [Hx]; · iexact Hx
  isplitl [Hl]; · iexact Hl
  isplitl [Hw1]; · iexact Hw1
  isplitl [Hr0]; · iexact Hr0
  isplitl [Hrest]; · iexact Hrest
  isplitl [Hs1]; · iexact Hs1
  isplitl [Hs2] <;> iassumption

/-! ## The other sends, and the waits -/

/-- Both cells of a place closed. -/
def closed (p : Fin 4) : sProp 𝕄 := iprop(semVal (sendCell c p) 0 ∗ semVal (recvCell c p) 0)

set_option maxHeartbeats 1000000 in
/-- The columns are sent to places 1, 2 and 3, every place's columns waited for, the receive buffer read. -/
theorem run10 (v8 v10 v292 z : BitVec 32) (Kt) :
    iprop((records st K ∗ owing c (oR c 3 + oR c 2 + oR c 1) ∗ sent st c 0
          ∗ (signalled c 1 ∗ but (slot c) 1 (barPay c 1) ∗ statPts c 1 (st c))
          ∗ (signalled c 2 ∗ but (slot c) 2 (barPay c 2) ∗ statPts c 2 (st c))
          ∗ (signalled c 3 ∗ but (slot c) 3 (barPay c 3) ∗ statPts c 3 (st c))
          ∗ bigSep Finset.univ (fun p => but (slot c) p (cred (tallyAt (recvCell c p) () N))))
        ∗ ((owing c 0 ∗ rPts c (recvAt st c) ∗ statPts c 0 (st c) ∗ statPts c 1 (st c) ∗ statPts c 2 (st c) ∗ statPts c 3 (st c)
              ∗ bigSep Finset.univ (closed c)) -∗ Kt (recvAt st c)))
      ⊢ wp frame (wpE (defs₀ (F := F)) 𝒱₀ (c : Thread nD τ) none) Set.univ (part10 (F := F) c v8 v10 v292 z) Kt := by
  simp only [part10, k0_part10_eq_skeleton]; unfold k0_part10_skel
  simp only [Prog.lift, Prog.bind_op, Prog.bind_ret, Prog.pure_eq_ret]
  rw [bigSep_four, bigSep_four]
  iintro ⟨⟨#Hrec, HO, Hp0, ⟨Hr1, Hb1, Hs1⟩, ⟨Hr2, Hb2, Hs2⟩, ⟨Hr3, Hb3, Hs3⟩, Hc0, Hc1, Hc2, Hc3⟩, Hk⟩
  ihave HO := (Entails.of_eq (show (owing c (oR c 3 + oR c 2 + oR c 1) : sProp 𝕄) = owing c (((0 + oR c 3) + oR c 2) + oR c 1) by rw [zero_add])) $$ HO
  iapply (send_step st K c 1 (cond6 c) (fun h => ⟨k0_dev6 c, k0_dev6_lt c h⟩) (fun h => dev6 c _) rfl
    ((k0_off4_eq c).trans (off_slot1 c)) ((k0_off5_eq c).trans (off_slot3 c))) $$ [HO Hr1 Hb1 Hs1]
  · isplitr; · iexact Hrec
    isplitl [HO]; · iexact HO
    isplitl [Hr1]; · iexact Hr1
    isplitl [Hb1] <;> iassumption
  iintro ⟨HO, Hp1⟩
  iapply (send_step st K c 2 (cond7 c) (fun h => ⟨k0_dev7 c, k0_dev7_lt c h⟩) (fun h => dev7 c _) rfl
    ((k0_off6_eq c).trans (off_slot1 c)) ((k0_off7_eq c).trans (off_slot3 c))) $$ [HO Hr2 Hb2 Hs2]
  · isplitr; · iexact Hrec
    isplitl [HO]; · iexact HO
    isplitl [Hr2]; · iexact Hr2
    isplitl [Hb2] <;> iassumption
  iintro ⟨HO, Hp2⟩
  iapply (send_step st K c 3 (cond8 c) (fun h => ⟨k0_dev8 c, k0_dev8_lt c h⟩) (fun h => dev8 c _) rfl
    ((k0_off8_eq c).trans (off_slot1 c)) ((k0_off9_eq c).trans (off_slot3 c))) $$ [HO Hr3 Hb3 Hs3]
  · isplitr; · iexact Hrec
    isplitl [HO]; · iexact HO
    isplitl [Hr3]; · iexact Hr3
    isplitl [Hb3] <;> iassumption
  iintro ⟨HO, Hp3⟩
  iapply (settle_step st K c 0 (cond9 c) rfl rfl) $$ [HO Hp0 Hc0]
  · isplitr; · iexact Hrec
    isplitl [HO]; · iexact HO
    isplitl [Hp0] <;> iassumption
  iintro ⟨HO, Hp0⟩
  iapply (settle_step st K c 1 (cond10 c) rfl rfl) $$ [HO Hp1 Hc1]
  · isplitr; · iexact Hrec
    isplitl [HO]; · iexact HO
    isplitl [Hp1] <;> iassumption
  iintro ⟨HO, Hp1⟩
  iapply (settle_step st K c 2 (cond11 c) rfl rfl) $$ [HO Hp2 Hc2]
  · isplitr; · iexact Hrec
    isplitl [HO]; · iexact HO
    isplitl [Hp2] <;> iassumption
  iintro ⟨HO, Hp2⟩
  iapply (settle_step st K c 3 (cond12 c) rfl rfl) $$ [HO Hp3 Hc3]
  · isplitr; · iexact Hrec
    isplitl [HO]; · iexact HO
    isplitl [Hp3] <;> iassumption
  iintro ⟨HO, Hp3⟩
  unfold settled
  icases Hp0 with ⟨Hl0, Hs0, Hz0⟩
  icases Hp1 with ⟨Hl1, Hs1, Hz1⟩
  icases Hp2 with ⟨Hl2, Hs2, Hz2⟩
  icases Hp3 with ⟨Hl3, Hs3, Hz3⟩
  ihave Hr := (Entails.of_eq ((rPts_slots c (recvAt st c)).trans (bigSep_four _)).symm) $$ [Hl0 Hl1 Hl2 Hl3]
  · isplitl [Hl0]; · iexact Hl0
    isplitl [Hl1]; · iexact Hl1
    isplitl [Hl2] <;> iassumption
  have e : rM.view.readAt (Elt F) (Rect.unit (s := S4x1024x2) ![0, 0, 0] S4x1024x2.size inb_S4x1024x2_S4x1024x2_0_0_0).toLoadRect (recvAt st c) = recvAt st c :=
    Memref.readAt_unit_zero (Elt F) cc0_scratch2 (by funext a; fin_cases a <;> rfl) _ _
  unfold rPts
  iapply (wp_load 𝒱₀ (c : Thread nD τ) none Set.univ (m := rM) (Finset.subset_univ _)) $$ Hr; iintro Hr
  rw [e, wp_ret]; imodintro
  iapply Hk
  unfold closed
  isplitl [HO]; · iexact HO
  isplitl [Hr]; · iexact Hr
  isplitl [Hs0]; · iexact Hs0
  isplitl [Hs1]; · iexact Hs1
  isplitl [Hs2]; · iexact Hs2
  isplitl [Hs3]; · iexact Hs3
  isplitl [Hz0]; · iexact Hz0
  isplitl [Hz1]; · iexact Hz1
  isplitl [Hz2] <;> iassumption

end Cert.KernelIdeal.Plane

end
-- ==== Proof.Body.lean ====
/-
A device's whole run: from its blocks and what it brings to the plane, to the logarithm of the gathered sums less the gathered
label logit in its result's staging buffer.
-/
module

public import proofs.«01_k».proof.Proof.Exchange

@[expose] public section

noncomputable section

namespace Cert.KernelIdeal.Plane

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (c : Dev nD) (x : Vec F S1024x2048 .f32) (W : Buf (Elt F) ((c : Thread nD τ).loc main_arg1)) (l : Vec F S1024x1 .i32)

/-! ## The weights, and their buffer, whole -/

/-- The weights in HBM, the weight buffer, the result's buffer. -/
def wAll : sProp 𝕄 := ((c : Thread nD τ).loc main_arg1) ↦{fullShare} W
def wBuf : sProp 𝕄 := iprop(∃ f : Buf (Elt F) ((c : Thread nD τ).loc cc0_scratch1), ((c : Thread nD τ).loc cc0_scratch1) ↦{fullShare} f)
def oPts (o : Buf (Elt F) ((c : Thread nD τ).loc cc0_stg1_0)) : sProp 𝕄 := ((c : Thread nD τ).loc cc0_stg1_0) ↦{fullShare} o
/-- The share of the weights neither slot is filled from. -/
def wRest : sProp 𝕄 := ((c : Thread nD τ).loc main_arg1) ↦{Transfers.shareDrop fullShare 2} W

omit [FloatOps F] in
/-- The weights are the rest and a share for each slot. -/
theorem wAll_deal : wAll c W ⊣⊢ iprop(wRest c W ∗ wSrc c 0 W ∗ wSrc c 1 W) := by
  have h := Transfers.pointsTo_toks (ℓ := (c : Thread nD τ).loc main_arg1) (S := Finset.univ) (f := W) (Ix := Unit) (Name := ℕ) (U := UU) (Lvl := ℕ) fullShare 2
  rw [bigSep_fin_two] at h
  exact h

omit [FloatOps F] in
/-- The weight buffer is its two slots. -/
theorem wBuf_split : wBuf (F := F) c ⊢ iprop(wAny c 0 ∗ wAny c 1) := by
  unfold wBuf wAny
  refine exists_elim fun f => ?_
  have h : (((c : Thread nD τ).loc cc0_scratch1) ↦{fullShare} f : sProp 𝕄)
      = iprop((((c : Thread nD τ).loc cc0_scratch1) ↦[wSet c 0]{fullShare} f) ∗ (((c : Thread nD τ).loc cc0_scratch1) ↦[wSet c 1]{fullShare} f)) :=
    (Ring.pointsTo_blocks (wSet c) (fun p q h => wSlot_disjoint p q h) (wSlot_cover c) f).trans (bigSep_fin_two _)
  refine (Entails.of_eq h).trans ?_
  iintro ⟨H0, H1⟩
  isplitl [H0]
  · iexists f; iexact H0
  · iexists f; iexact H1

omit [FloatOps F] in
/-- And back. -/
theorem wBuf_join : iprop(wAny (F := F) c 0 ∗ wAny c 1) ⊢ wBuf c := by
  have h (f₀ : Buf (Elt F) ((c : Thread nD τ).loc cc0_scratch1)) : bigSep Finset.univ (fun s : Fin 2 => wAny (F := F) c s) ⊢ wBuf (F := F) c :=
    Ring.pointsTo_blocks_join_exists (wSet c) (fun p q h => wSlot_disjoint p q h) (wSlot_cover c) (q := fullShare) f₀
  rw [bigSep_fin_two] at h
  refine BIBase.Entails.trans ?_ (show iprop((∃ f : Buf (Elt F) ((c : Thread nD τ).loc cc0_scratch1), wAny (F := F) c 0 ∗ wAny c 1)) ⊢ wBuf (F := F) c from exists_elim h)
  unfold wAny
  iintro ⟨⟨%f, H0⟩, H1⟩
  iexists f
  isplitl [H0]
  · iexists f; iexact H0
  iexact H1

/-! ## The run -/

variable (st : Dev nD → Vec F S1024x2 .f32) (K : Dev nD × CI → ℕ)

/-- What the device holds of its own throughout: the rows, the weights, the labels. -/
def inputs (x : Buf (Elt F) ((c : Thread nD τ).loc main_arg0)) : sProp 𝕄 := iprop(xSrc c x ∗ wAll c W ∗ lPts c l)
/-- The cells of the transfers within the device. -/
def localCells : sProp 𝕄 :=
  iprop(semVal ((c : Thread nD τ), .dma xS) 0 ∗ semVal ((c : Thread nD τ), .dma (wS 0)) 0 ∗ semVal ((c : Thread nD τ), .dma (wS 1)) 0)
/-- The scratch buffers, at contents left open. -/
def scratch : sProp 𝕄 := iprop((∃ g, xHere (F := F) c g) ∗ wBuf c ∗ (∃ f, rPts c f) ∗ ∃ t, tPts c t)

set_option maxHeartbeats 2000000 in
/-- From its blocks, its scratch and its ghost state, a device runs to its result, every cell of its own closed. -/
theorem run_body (x : Buf (Elt F) ((c : Thread nD τ).loc main_arg0)) (o : Buf (Elt F) ((c : Thread nD τ).loc cc0_stg1_0)) (hst : st c = stats c x W l) (Kt) :
    iprop((records st K ∗ levAts L lv ∗ owing c (O₀ c) ∗ ghost c ∗ credits c ∗ inputs c W l x ∗ localCells c ∗ scratch c ∗ oPts c o)
        ∗ ((owing c 0 ∗ semVal (barCell c) 0 ∗ bigSep Finset.univ (closed c) ∗ localCells c ∗ scratch c ∗ inputs c W l x ∗ oPts c (outOf st c)) -∗ Kt ⟨⟩))
      ⊢ wp frame (wpE (defs₀ (F := F)) 𝒱₀ (c : Thread nD τ) none) Set.univ (cc0_body (F := F) xhM (Memref.isWhole_whole _) whM (Memref.isWhole_whole _) lM (Memref.isWhole_whole _) oM (Memref.isWhole_whole _)
          xM (Memref.isWhole_whole _) wM (Memref.isWhole_whole _) rM (Memref.isWhole_whole _) tM (Memref.isWhole_whole _) cc0_scratch4 cc0_scratch5 cc0_scratch6 cc0_scratch7) Kt := by
  rw [cc0_body_eq_skeleton]; unfold cc0_body_skel
  unfold ghost credits inputs localCells scratch
  rw [bigSep_four (place c)]
  iintro ⟨⟨#Hrec, #Hlev, HO, ⟨Hat, Hp0, Hp1, Hp2, Hp3⟩, ⟨Hcb, Hcr⟩, ⟨Hs, Hw, Hl⟩, ⟨Hzx, Hz0, Hz1⟩, ⟨⟨%g, Hx⟩, Hwb, ⟨%f, Hr⟩, ⟨%t, Ht⟩⟩, Ho⟩, Hk⟩
  ihave Hwd := ((wAll_deal c W).1) $$ Hw
  icases Hwd with ⟨Hwr, Hw0, Hw1⟩
  ihave Hwb := (wBuf_split c) $$ Hwb
  icases Hwb with ⟨Ha0, Ha1⟩
  rw [wp_bind]
  iapply (run1 c W x f g)
  isplitl [Hr Hs Hx Hzx Ha0 Hz0 Hw0]
  · isplitl [Hr]; · iexact Hr
    isplitl [Hs]; · iexact Hs
    isplitl [Hx]; · iexact Hx
    isplitl [Hzx]; · iexact Hzx
    unfold wFree
    isplitl [Ha0]; · iexact Ha0
    isplitl [Hz0] <;> iassumption
  iintro ⟨Hr, Hxf, Hw0⟩
  ihave Hr := (Entails.of_eq ((rPts_slots c k0_pay2).trans (bigSep_four _))) $$ Hr
  icases Hr with ⟨Hl0, Hl1, Hl2, Hl3⟩
  rw [wp_bind]
  iapply (run2 st K c W x)
  isplitl [HO Hp0 Hp1 Hp2 Hp3 Hl0 Hl1 Hl2 Hl3 Hat Hcb Hxf Hw0 Ha1 Hz1 Hw1]
  · isplitr; · iexact Hrec
    isplitr; · iexact Hlev
    isplitl [HO]; · iexact HO
    unfold ready
    isplitl [Hp0 Hl0]; · isplitl [Hp0] <;> iassumption
    isplitl [Hp1 Hl1]; · isplitl [Hp1] <;> iassumption
    isplitl [Hp2 Hl2]; · isplitl [Hp2] <;> iassumption
    isplitl [Hp3 Hl3]; · isplitl [Hp3] <;> iassumption
    isplitl [Hat]; · iexact Hat
    isplitl [Hcb]; · iexact Hcb
    isplitl [Hxf]; · iexact Hxf
    isplitl [Hw0]; · iexact Hw0
    unfold wFree
    isplitl [Ha1]; · iexact Ha1
    isplitl [Hz1] <;> iassumption
  iintro ⟨HO, Hzb, Hpay, Hr0, Hr1, Hr2, Hr3, Hzx, Hx, Hs, Hw0, Hw1⟩
  rw [wp_bind]
  iapply (run3 c x W l (base c) lanes _ _)
  isplitl [HO Hx Hl Hw0 Hw1]
  · isplitr; · iexact Hlev
    isplitl [HO]; · iexact HO
    isplitl [Hx]; · iexact Hx
    isplitl [Hl]; · iexact Hl
    isplitl [Hw0] <;> iassumption
  iintro ⟨HO, Hx, Hl, Hw0, Hw1⟩
  rw [wp_bind]
  iapply (run4 c x W l (base c) lanes _ _ _ _ _)
  isplitl [HO Hx Hl Hw0 Hw1]
  · isplitr; · iexact Hlev
    isplitl [HO]; · iexact HO
    isplitl [Hx]; · iexact Hx
    isplitl [Hl]; · iexact Hl
    isplitl [Hw0] <;> iassumption
  iintro ⟨HO, Hx, Hl, Hw0, Hw1⟩
  rw [wp_bind]
  iapply (run5 c x W l (base c) lanes _ _ _)
  isplitl [HO Hx Hl Hw0 Hw1]
  · isplitr; · iexact Hlev
    isplitl [HO]; · iexact HO
    isplitl [Hx]; · iexact Hx
    isplitl [Hl]; · iexact Hl
    isplitl [Hw0] <;> iassumption
  iintro ⟨HO, Hx, Hl, Hw0, Hw1⟩
  rw [wp_bind]
  iapply (run6 c x W l (base c) lanes _ _ _)
  isplitl [HO Hx Hl Hw0 Hw1]
  · isplitr; · iexact Hlev
    isplitl [HO]; · iexact HO
    isplitl [Hx]; · iexact Hx
    isplitl [Hl]; · iexact Hl
    isplitl [Hw0] <;> iassumption
  iintro ⟨HO, Hx, Hl, Hw0, Hw1⟩
  rw [wp_bind]
  iapply (run7 c x W l (base c) lanes _ _ _)
  isplitl [HO Hx Hl Hw0 Hw1]
  · isplitr; · iexact Hlev
    isplitl [HO]; · iexact HO
    isplitl [Hx]; · iexact Hx
    isplitl [Hl]; · iexact Hl
    isplitl [Hw0] <;> iassumption
  iintro ⟨HO, Hx, Hl, Hw0, Hw1⟩
  rw [wp_bind]
  iapply (run8 c x W l (base c) lanes _ _ _ _ _)
  isplitl [HO Hx Hl Hw0 Hw1]
  · isplitr; · iexact Hlev
    isplitl [HO]; · iexact HO
    isplitl [Hx]; · iexact Hx
    isplitl [Hl]; · iexact Hl
    isplitl [Hw0] <;> iassumption
  iintro ⟨HO, Hx, Hl, Hw0, Hw1⟩
  ihave Hpay := (Entails.of_eq (bigSep_four _)) $$ Hpay
  icases Hpay with ⟨Hb0, Hb1, Hb2, Hb3⟩
  rw [wp_bind]
  iapply (run9 st K c x W l t _ _ (base c) lanes _ _ (by
    rw [hst]; unfold stats
    rw [← stored_s c x W (wv c W) (fun _ => rfl), ← stored_g c x W l (wv c W) (fun _ => rfl)]))
  isplitl [HO Hx Hl Hw1 Ht Hr0 Hb0]
  · isplitr; · iexact Hrec
    isplitr; · iexact Hlev
    isplitl [HO]; · iexact HO
    isplitl [Hx]; · iexact Hx
    isplitl [Hl]; · iexact Hl
    isplitl [Hw1]; · iexact Hw1
    isplitl [Ht]; · iexact Ht
    isplitl [Hr0] <;> iassumption
  iintro %r ⟨HO, Hx, Hl, Hw1, Hp0, Htr, Hs1, Hs2, Hs3⟩
  obtain ⟨v292, z⟩ := r
  rw [wp_bind]
  iapply (run10 st K c)
  isplitl [HO Hp0 Hr1 Hb1 Hs1 Hr2 Hb2 Hs2 Hr3 Hb3 Hs3 Hcr]
  · isplitr; · iexact Hrec
    isplitl [HO]; · iexact HO
    isplitl [Hp0]; · iexact Hp0
    isplitl [Hr1 Hb1 Hs1]
    · isplitl [Hr1]; · iexact Hr1
      isplitl [Hb1] <;> iassumption
    isplitl [Hr2 Hb2 Hs2]
    · isplitl [Hr2]; · iexact Hr2
      isplitl [Hb2] <;> iassumption
    isplitl [Hr3 Hb3 Hs3]
    · isplitl [Hr3]; · iexact Hr3
      isplitl [Hb3] <;> iassumption
    iexact Hcr
  iintro ⟨HO, Hr, Hs0, Hs1, Hs2, Hs3, Hcl⟩
  ihave Ht := ((tPts_deal c (st c)).2) $$ [Htr Hs0 Hs1 Hs2 Hs3]
  · isplitl [Htr]; · iexact Htr
    isplitl [Hs0]; · iexact Hs0
    isplitl [Hs1]; · iexact Hs1
    isplitl [Hs2] <;> iassumption
  ihave Hw0 := (wFull_free c 0 W _) $$ Hw0
  ihave Hw1 := (wFull_free c 1 W _) $$ Hw1
  unfold wFree
  icases Hw0 with ⟨Ha0, Hz0, Hw0⟩
  icases Hw1 with ⟨Ha1, Hz1, Hw1⟩
  ihave Hw := ((wAll_deal c W).2) $$ [Hwr Hw0 Hw1]
  · isplitl [Hwr]; · iexact Hwr
    isplitl [Hw0] <;> iassumption
  ihave Hwb := (wBuf_join c) $$ [Ha0 Ha1]
  · isplitl [Ha0] <;> iassumption
  have et : tM.view.readAt (Elt F) (Rect.unit (s := S1024x2) ![0, 0] S1024x2.size inb_S1024x2_S1024x2_0_0).toLoadRect (st c) = st c :=
    Memref.readAt_unit_zero (Elt F) cc0_scratch3 (by funext a; fin_cases a <;> rfl) _ _
  have eo (f w : Buf (Elt F) ((c : Thread nD τ).loc cc0_stg1_0)) :
      (oM.access (Rect.unit (s := S1024x1) ![0, 0] S1024x1.size inb_S1024x1_S1024x1_0_0) : View sig .tc _ _ _).write (Elt F) f w Finset.univ = w :=
    Memref.write_access_unit_zero_univ (Elt F) cc0_stg1_0 (by funext a; fin_cases a <;> rfl) _ f w
  simp only [Prog.lift, Prog.bind_op, Prog.bind_ret, Prog.pure_eq_ret]
  unfold tPts oPts
  iapply (wp_load 𝒱₀ (c : Thread nD τ) none Set.univ (m := tM) (Finset.subset_univ _)) $$ Ht; iintro Ht
  rw [et]
  iapply (wp_load 𝒱₀ (c : Thread nD τ) none Set.univ (m := oM) (Finset.subset_univ _)) $$ Ho; iintro Ho
  iapply (wp_store 𝒱₀ (c : Thread nD τ) none Set.univ (m := oM) (r := Rect.unit (s := S1024x1) ![0, 0] S1024x1.size inb_S1024x1_S1024x1_0_0)
    (Mk := Finset.univ) (Finset.subset_univ _)) $$ Ho; iintro Ho
  rw [eo, wp_ret]; imodintro
  iapply Hk
  isplitl [HO]; · iexact HO
  isplitl [Hzb]; · iexact Hzb
  isplitl [Hcl]; · iexact Hcl
  isplitl [Hzx Hz0 Hz1]
  · isplitl [Hzx]; · iexact Hzx
    isplitl [Hz0] <;> iassumption
  isplitl [Hx Hwb Hr Ht]
  · isplitl [Hx]; · iexists _; iexact Hx
    isplitl [Hwb]; · iexact Hwb
    isplitl [Hr]; · iexists _; iexact Hr
    iexists _; iexact Ht
  isplitl [Hs Hw Hl]
  · isplitl [Hs]; · iexact Hs
    isplitl [Hw] <;> iassumption
  iexact Ho

end Cert.KernelIdeal.Plane

end
-- ==== Proof.Launch.lean ====
/-
The launch on the sixteen devices: the body's obligation, the ghost state dealt around the planes, what is owed at the start,
and the run of @main, for any float values.
-/
module

public import proofs.«01_k».proof.Proof.Body
public import proofs.«01_k».proof.Proof.Gen.KernelIdeal.Launch
public import proofs.«01_k».proof.Proof.Gen.KernelIdeal.Points
public import Idealize.ShloMosaic.Lib.Pipeline.CollectiveSegs

@[expose] public section

noncomputable section

namespace Cert.KernelIdeal.Plane

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The contents -/

/-- A device's rows, weights and labels as launched, the columns each device makes of them. -/
abbrev rowsOf (c : Dev nD) : Buf (Elt F) ((c : Thread nD τ).loc main_arg0) := m ((c : Thread nD τ).loc main_arg0)
abbrev weightsOf (c : Dev nD) : Buf (Elt F) ((c : Thread nD τ).loc main_arg1) := m ((c : Thread nD τ).loc main_arg1)
def labelsOf (c : Dev nD) : (cc0_stg0_0 : Ref sig .tc).ty.Contents (Elt F) :=
  (win0_0.blk (0 : Fin 1)).view.read (Elt F) (m ((c : Thread nD τ).loc main_arg2))
def colsOf (c : Dev nD) : Vec F S1024x2 .f32 := stats c (rowsOf m c) (weightsOf m c) (labelsOf m c)

/-! ## The body's obligation -/

/-- The operands in HBM that no window stages. -/
def held (c : Dev nD) : sProp 𝕄 := iprop(xSrc c (rowsOf m c) ∗ wAll c (weightsOf m c))

/-- What a device's body starts from besides its scratch. -/
def start (c : Dev nD) : sProp 𝕄 :=
  iprop((∃ K, records (colsOf m) K) ∗ ghost c ∗ credits c ∗ localCells c ∗ held m c ∗ levAts L lv)
def Φ₀ (c : Dev nD) : sProp 𝕄 := iprop(start m c ∗ scratch c)
def Φ₁ (c : Dev nD) : sProp 𝕄 :=
  iprop(semVal (barCell c) 0 ∗ bigSep Finset.univ (closed c) ∗ localCells c ∗ scratch c ∗ held m c)

def dats (_ : Fin 1) (c : Dev nD) : Dat τ (Elt F) Unit ℕ UU ℕ cfg0 c where
  A w := m ((cfg0.win w).arr.view.loc (c : Thread nD τ))
  after w _ := match w with
    | ⟨0, _⟩ => labelsOf m c
    | ⟨1, _⟩ => outOf (colsOf m) c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_labels (t : Fin cfg0.N) : (cfg0.win (0 : Fin 2)).fetch t = true := fetch0_0 t

omit [FloatOps F] in
/-- Owning a whole buffer through its memref at contents `X` is owning the buffer at `X`. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stagedAt (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stagedAt c cc0_stg0_0 ((dats m 0 c).before (0 : Fin 2) t0_0 d))
    ∗ (∃ d, stagedAt c cc0_stg1_0 ((dats m 0 c).before (1 : Fin 2) t0_0 d)))
def bodyPost (c : Dev nD) : sProp 𝕄 :=
  iprop(Φ₁ m c ∗ (dats m 0 c).owesAt () t0_0.succ ∗ stagedAt c cc0_stg0_0 (labelsOf m c) ∗ stagedAt c cc0_stg1_0 (outOf (colsOf m) c))

/-- The body from `bodyPre` to `bodyPost`: `run_body` at the launch's contents. -/
theorem body_sound (c : Dev nD) :
    bodyPre m c ⊢ wp frame (wpE (defs₀ (F := F)) 𝒱₀ (c : Thread nD τ) none) Set.univ
      (cc0_body (F := F) xhM (Memref.isWhole_whole _) whM (Memref.isWhole_whole _) lM (Memref.isWhole_whole _) oM (Memref.isWhole_whole _)
          xM (Memref.isWhole_whole _) wM (Memref.isWhole_whole _) rM (Memref.isWhole_whole _) tM (Memref.isWhole_whole _) cc0_scratch4 cc0_scratch5 cc0_scratch6 cc0_scratch7)
      (fun _ => bodyPost m c) := by
  unfold bodyPre Φ₀ start held Dat.owesAt Pipeline.owesWithin
  iintro ⟨⟨⟨⟨%K, #Hrec⟩, Hg, Hcr, Hlc, ⟨Hs, Hw⟩, #Hlev⟩, Hsc⟩, ⟨%V, %hV, HO⟩, ⟨%d0, %g0, %hg0, Hl⟩, ⟨%d1, %g1, %hg1, Ho⟩⟩
  have hl : g0 = labelsOf m c := by rw [hg0]; unfold Dat.before; rw [if_pos (fetch_labels t0_0)]; rfl
  subst hl
  iapply (run_body c (weightsOf m c) (labelsOf m c) (colsOf m) K (rowsOf m c) g1 rfl)
  isplitl [Hg Hcr Hlc Hs Hw Hsc HO Hl Ho]
  · isplitr; · iexact Hrec
    isplitr; · iexact Hlev
    isplitl [HO]
    · unfold owing; iexists V; iexact HO
    isplitl [Hg]; · iexact Hg
    isplitl [Hcr]; · iexact Hcr
    isplitl [Hs Hw Hl]
    · unfold inputs lPts
      isplitl [Hs]; · iexact Hs
      isplitl [Hw] <;> iassumption
    isplitl [Hlc]; · iexact Hlc
    isplitl [Hsc]; · iexact Hsc
    unfold oPts; iexact Ho
  iintro ⟨HO, Hz, Hcl, Hlc, Hsc, Hin, Ho⟩
  unfold bodyPost Φ₁ held Dat.owesAt Pipeline.owesWithin owing inputs lPts oPts
  icases Hin with ⟨Hs, Hw, Hl⟩
  icases HO with ⟨%V', HO⟩
  isplitl [Hz Hcl Hlc Hsc Hs Hw]
  · isplitl [Hz]; · iexact Hz
    isplitl [Hcl]; · iexact Hcl
    isplitl [Hlc]; · iexact Hlc
    isplitl [Hsc]; · iexact Hsc
    isplitl [Hs] <;> iassumption
  isplitl [HO]
  · iexists V'
    isplitr; · ipureintro; exact fun _ _ => Or.inl trivial
    iexact HO
  isplitl [Hl]
  · iexists _; isplitr; · (ipureintro; rfl)
    iexact Hl
  iexists _; isplitr; · (ipureintro; rfl)
  iexact Ho

set_option maxRecDepth 4000 in
/-- The library's body obligation. -/
theorem body_obligation (c : Dev nD) : BodyObligation (dats (F := F) m 0 c) (defs₀ (F := F)) 𝒱₀ () Set.univ := fun t => by
  rw [show t = t0_0 from fin_N0 t]
  rw [bigSep_W0, bigSep_W0]
  simp only [owns_buffer]
  exact body_sound m c

/-! ## The ghost state, dealt -/

/-- The semaphores of a device's scratch: of the rows and the two weight slots, a send and a receive semaphore for each place. -/
abbrev OI : Type := Fin 3 ⊕ (Fin 4 ⊕ Fin 4)
abbrev osem : OI → SemLoc sig
  | .inl 0 => .dma xS
  | .inl 1 => .dma (wS 0)
  | .inl 2 => .dma (wS 1)
  | .inr (.inl p) => .dma (sendS p)
  | .inr (.inr p) => .dma (recvS p)

theorem ownSemFacts : Pipeline.OwnSemFacts cfg0.spec osem := by decide

theorem share_full (c : Dev nD) (w : Fin cfg0.W) : (dats m 0 c).share w = fullShare := by unfold Dat.share; split <;> rfl

set_option backward.proofsInPublic true in
theorem csem_injective : Function.Injective csem := by decide
theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]
def planeCells : Finset (GSem nD τ sig) := Finset.univ.map ⟨kcell, kcell_injective⟩

/-- A device's cells' duties: its barrier's for each place, its send cells', its receive cells'. -/
abbrev TI : Type := Fin 4 ⊕ (Fin 4 ⊕ Fin 4)
abbrev tokOf (cj : Dev nD × TI) : GSem nD τ sig × ℕ × Fin 4 := match cj.2 with
  | .inl q => (barCell cj.1, 0, q)
  | .inr (.inl p) => (sendCell cj.1 p, 0, 0)
  | .inr (.inr p) => (recvCell cj.1 p, 0, 0)
abbrev tsem : TI → SemLoc sig × Fin 4
  | .inl q => (.reg barS, q)
  | .inr (.inl p) => (.dma (sendS p), 0)
  | .inr (.inr p) => (.dma (recvS p), 0)
set_option backward.proofsInPublic true in
theorem tsem_injective : Function.Injective tsem := by decide
theorem tokOf_injective : Function.Injective (tokOf : Dev nD × TI → GSem nD τ sig × ℕ × Fin 4) := by
  rintro ⟨c, j⟩ ⟨c', j'⟩ h
  have h1 : c = c' := by
    have := congrArg (fun x : GSem nD τ sig × ℕ × Fin 4 => x.1.1.1) h
    rcases j with _ | _ | _ <;> rcases j' with _ | _ | _ <;> exact this
  have h2 : j = j' := tsem_injective (by
    have := congrArg (fun x : GSem nD τ sig × ℕ × Fin 4 => (x.1.2, x.2.2)) h
    rcases j with _ | _ | _ <;> rcases j' with _ | _ | _ <;> exact this)
  rw [h1, h2]
def planeToks : Finset (GSem nD τ sig × ℕ × Fin 4) := Finset.univ.map ⟨tokOf, tokOf_injective⟩

/-- What the resource algebra holds at launch. -/
def u₀ : UU := (initOf (Pipeline.cells cfgs cellOf_inj) (Pipeline.launchToks cfgs cellOf_inj), (initOf planeCells planeToks, 1))

/-- The tokens of a device's own cells, -/
def ownToks (c : Dev nD) : sProp 𝕄 :=
  iprop(bigSep Finset.univ (fun q : Fin 4 => dutyTok ER (barCell c) 0 q) ∗ bigSep Finset.univ (fun p : Fin 4 => dutyTok ER (sendCell c p) 0 0)
    ∗ bigSep Finset.univ (fun p : Fin 4 => dutyTok ER (recvCell c p) 0 0))
/-- and of the duties it pays. -/
def payToks (c : Dev nD) : sProp 𝕄 :=
  iprop(bigSep Finset.univ (fun p : Fin 4 => dutyTok ER (barCell (peer c p)) 0 (slot c)) ∗ bigSep Finset.univ (fun p : Fin 4 => dutyTok ER (sendCell c p) 0 0)
    ∗ bigSep Finset.univ (fun p : Fin 4 => dutyTok ER (recvCell (peer c p) (slot c)) 0 0))

omit [FloatOps F] in
/-- Handed from each owner to the payer: the two ends of every pair exchanged. -/
theorem toks_around : (bigSep Finset.univ fun c : Dev nD => (ownToks c : sProp 𝕄)) ⊢ bigSep Finset.univ fun c : Dev nD => payToks c := by
  have h (Ψ : Dev nD × Fin 4 → sProp 𝕄) : (bigSep Finset.univ fun c : Dev nD => bigSep Finset.univ fun p : Fin 4 => Ψ (c, p))
      = bigSep Finset.univ fun c : Dev nD => bigSep Finset.univ fun p : Fin 4 => Ψ (peer c p, slot c) := by
    rw [← bigSep_univ_prod Ψ, bigSep_univ_equiv swap Ψ, bigSep_univ_prod]; rfl
  unfold ownToks payToks
  rw [bigSep_sep', bigSep_sep', bigSep_sep', bigSep_sep', h (fun x => dutyTok ER (barCell x.1) 0 x.2), h (fun x => dutyTok ER (recvCell x.1 x.2) 0 0)]

/-- A device's share of the launch, and what the devices' step together makes of it. -/
def G (c : Dev nD) : sProp 𝕄 :=
  iprop((bigSep Finset.univ fun k : CI => roundState ER (planeRd (colsOf m)) (kcell (c, k)) 0)
    ∗ (bigSep Finset.univ fun k : CI => iprop(atPos ER (kcell (c, k)) 0 ∅ 0 ∗ reached ER (kcell (c, k)) 0)) ∗ ownToks c)
def G' (c : Dev nD) : sProp 𝕄 := iprop((∃ K, records (colsOf m) K) ∗ ghost c ∗ localCells c)

theorem fund_plane : BI.own (ER (initOf planeCells planeToks)) ⊢ (|==> bigSep Finset.univ (G m) : sProp 𝕄) := by
  have hX (Ψ : GSem nD τ sig → sProp 𝕄) : bigSep planeCells Ψ = bigSep Finset.univ fun c : Dev nD => bigSep Finset.univ fun k : CI => Ψ (kcell (c, k)) := by
    unfold planeCells; rw [bigSep_map, bigSep_univ_prod]; rfl
  have hT : bigSep planeToks (fun x => (dutyTok ER x.1 x.2.1 x.2.2 : sProp 𝕄)) = bigSep Finset.univ fun c : Dev nD => ownToks c := by
    unfold planeToks; rw [bigSep_map, bigSep_univ_prod]
    exact bigSep_congr fun c _ => by unfold ownToks; rw [bigSep_univ_sum, bigSep_univ_sum]; rfl
  iintro HX
  imod (Rounds.fund ER (planeRd (colsOf m)) planeCells planeToks) $$ HX with ⟨Hst, Hr, Hat, Htok⟩
  imodintro
  ihave Hst' := (Entails.of_eq (hX fun g => roundState ER (planeRd (colsOf m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem bigSep_three (Ψ : Fin 3 → sProp 𝕄) : bigSep Finset.univ Ψ = iprop(Ψ 0 ∗ Ψ 1 ∗ Ψ 2) :=
  bigSep_univ_eq_bigSepL [0, 1, 2] (by decide) (by decide) Ψ

omit [FloatOps F] in
/-- The semaphores at zero: those of the transfers within the device, and the plane's. -/
theorem ownSems0_eq (c : Dev nD) : (Pipeline.ownSems0 (Ix := Unit) (Name := ℕ) (U := UU) (Lvl := ℕ) (Val := Elt F) (τ := τ) osem c : sProp 𝕄)
    = iprop(localCells c ∗ bigSep Finset.univ (fun p : Fin 4 => semVal (sendCell c p) 0) ∗ bigSep Finset.univ (fun p : Fin 4 => semVal (recvCell c p) 0)) := by
  unfold Pipeline.ownSems0 localCells
  rw [bigSep_univ_sum, bigSep_univ_sum, bigSep_three]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem kcells_zero (c : Dev nD) : (bigSep Finset.univ fun k : CI => semVal (kcell (c, k)) 0 : sProp 𝕄)
    = iprop(semVal (barCell c) 0 ∗ bigSep Finset.univ (fun p : Fin 4 => semVal (sendCell c p) 0) ∗ bigSep Finset.univ (fun p : Fin 4 => semVal (recvCell c p) 0)) := by
  rw [bigSep_univ_sum, bigSep_univ_sum, bigSep_univ_of_subsingleton ()]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (planeRd (colsOf m)) κ (kcell (c, k))))
          ∗ (bigSep Finset.univ fun k => iprop(atPos ER (kcell (c, k)) 0 ∅ 0 ∗ reached ER (kcell (c, k)) 0)) ∗ ownToks c ∗ localCells c) := by
  unfold G
  rw [ownSems0_eq, unscopedSems0_eq]
  iintro ⟨⟨Hlc, Hsd, Hrc⟩, Hbar, Hst, Hat, Htok⟩
  ihave Hv := (Entails.of_eq (kcells_zero (F := F) c).symm) $$ [Hsd Hrc Hbar]
  · isplitl [Hbar]; · iexact Hbar
    isplitl [Hsd] <;> iassumption
  imod (show iprop((bigSep Finset.univ fun k : CI => semVal (kcell (c, k)) 0) ∗ bigSep Finset.univ fun k : CI => roundState ER (planeRd (colsOf m)) (kcell (c, k)) 0)
      ⊢ (|={Set.univ}=> bigSep Finset.univ fun k => iprop(∃ κ : ℕ, cellInv ER (planeRd (colsOf m)) κ (kcell (c, k))) : sProp 𝕄) from by
        rw [← bigSep_sep']
        exact (bigSep_mono fun k _ => (Rounds.body_intro ER (planeRd (colsOf m)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- What stays a device's own: its positions, the tokens it pays with, the cells of its own transfers. -/
def kept (c : Dev nD) : sProp 𝕄 := iprop((bigSep Finset.univ fun k : CI => atPos ER (kcell (c, k)) 0 ∅ 0) ∗ payToks c ∗ localCells c)

theorem kept_ghost (K : Dev nD × CI → ℕ) (c : Dev nD) : iprop(records (colsOf m) K ∗ kept c) ⊢ G' m c := by
  have hp : (bigSep Finset.univ (place (F := F) c)) = iprop(bigSep Finset.univ (fun p : Fin 4 => atPos ER (sendCell c p) 0 ∅ 0)
      ∗ bigSep Finset.univ (fun p : Fin 4 => atPos ER (recvCell c p) 0 ∅ 0) ∗ payToks c) := by
    unfold payToks
    rw [← bigSep_sep', ← bigSep_sep', ← bigSep_sep', ← bigSep_sep']; rfl
  unfold kept G' ghost
  rw [hp]
  have hk : (bigSep Finset.univ fun k : CI => (atPos ER (kcell (c, k)) 0 ∅ 0 : sProp 𝕄)) = iprop(atPos ER (barCell c) 0 ∅ 0
      ∗ bigSep Finset.univ (fun p : Fin 4 => atPos ER (sendCell c p) 0 ∅ 0) ∗ bigSep Finset.univ (fun p : Fin 4 => atPos ER (recvCell c p) 0 ∅ 0)) := by
    rw [bigSep_univ_sum, bigSep_univ_sum, bigSep_univ_of_subsingleton ()]; rfl
  rw [hk]
  iintro ⟨#Hrec, ⟨Hb, Hs, Hr⟩, Htk, Hlc⟩
  isplitr; · iexists K; iexact Hrec
  isplitr [Hlc]
  · isplitl [Hb]; · iexact Hb
    isplitl [Hs]; · iexact Hs
    isplitl [Hr] <;> iassumption
  iexact Hlc

omit [FloatOps F] in
/-- A persistent fact beside a family is beside every member of it. -/
theorem beside_each {I : Type} [DecidableEq I] {S : Finset I} {R : sProp 𝕄} [BI.Persistent R] {Ψ Ξ : I → sProp 𝕄}
    (h : ∀ i ∈ S, iprop(R ∗ Ψ i) ⊢ Ξ i) : iprop(R ∗ bigSep S Ψ) ⊢ bigSep S Ξ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (planeRd (colsOf m)) κ (kcell (c, k))))
          ∗ (bigSep Finset.univ fun k => iprop(atPos ER (kcell (c, k)) 0 ∅ 0 ∗ reached ER (kcell (c, k)) 0)) ∗ ownToks c ∗ localCells c) : sProp 𝕄)
      ⊢ bigSep Finset.univ (G' m) := by
  rw [bigSep_sep', bigSep_sep', bigSep_sep', ← bigSep_univ_prod (fun ck : Dev nD × CI => iprop(∃ κ : ℕ, cellInv ER (planeRd (colsOf m)) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok, Hlc⟩
  ihave HK := (BI.bigSep_exists_pi Finset.univ (fun (ck : Dev nD × CI) (κ : ℕ) => (cellInv ER (planeRd (colsOf m)) κ (kcell ck) : sProp 𝕄))) $$ HI
  icases HK with ⟨%K, #HI⟩
  ihave Htk := (toks_around (F := F)) $$ Htok
  iapply (beside_each (R := records (colsOf m) K) fun c _ => kept_ghost m K c)
  isplitr
  · unfold records; rw [bigSep_sep']
    isplitl; · iexact HI
    iexact HR
  · unfold kept; rw [bigSep_sep', bigSep_sep']
    isplitl [Hat]; · iexact Hat
    isplitl [Htk] <;> iassumption

/-- The devices' step together: every semaphore's invariant allocated, the tokens dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What is owed at the start -/

/-- What a device owes, place by place. -/
theorem O₀_sum (d : Dev nD) : O₀ d = ∑ q : Fin 4, (oR d q + oB d q) := by
  unfold O₀ OR
  rw [Fin.sum_univ_four]; ac_rfl

theorem oB_at (d : Dev nD) (q : Fin 4) (c : Dev nD) :
    oB d q (barCell c) () = if (swap (d, q)).1 = c ∧ (swap (d, q)).2 ≠ slot (swap (d, q)).1 then 1 else 0 := by
  show oB d q (barCell c) () = if peer d q = c ∧ slot d ≠ slot (peer d q) then 1 else 0
  rw [slot_peer]
  unfold oB
  by_cases h : q = slot d
  · rw [if_pos h, if_neg (fun h' => h'.2 h.symm)]; rfl
  · rw [if_neg h, tallyAt_apply]
    refine if_congr ⟨fun h' => ⟨(congrArg (fun g : GSem nD τ sig => g.1.1) h'.1).symm, fun e => h e.symm⟩, fun h' => ⟨h'.1 ▸ rfl, rfl⟩⟩ rfl rfl
theorem oB_recv (d : Dev nD) (q : Fin 4) (c : Dev nD) (p : Fin 4) : oB d q (recvCell c p) () = 0 := by
  unfold oB; split
  · rfl
  · rw [tallyAt_apply]; exact if_neg fun h => by cases congrArg Prod.snd h.1
theorem oR_bar (d : Dev nD) (q : Fin 4) (c : Dev nD) : oR d q (barCell c) () = 0 := by
  unfold oR; split
  · rfl
  · rw [tallyAt_apply]; exact if_neg fun h => by cases congrArg Prod.snd h.1
theorem oR_at (d : Dev nD) (q : Fin 4) (c : Dev nD) (p : Fin 4) :
    oR d q (recvCell c p) () = if (swap (d, q)) = (c, p) ∧ p ≠ slot c then N else 0 := by
  show oR d q (recvCell c p) () = if (peer d q, slot d) = (c, p) ∧ p ≠ slot c then N else 0
  unfold oR
  by_cases h : q = slot d
  · rw [if_pos h, if_neg (fun h' => h'.2 (by
      obtain ⟨h1, h2⟩ := Prod.mk.inj h'.1
      rw [← h1, ← h2, slot_peer, h]))]; rfl
  · rw [if_neg h, tallyAt_apply]
    refine if_congr ⟨fun h' => ?_, fun h' => ?_⟩ rfl rfl
    · have h1 : c = peer d q := congrArg (fun g : GSem nD τ sig => g.1.1) h'.1
      have h2 : p = slot d := by
        have := congrArg (fun g : GSem nD τ sig => recvIx g.2) h'.1
        simp only [recvIx_recv] at this
        exact Option.some.inj this
      subst h1 h2
      exact ⟨rfl, fun e => h (e.trans (slot_peer d q)).symm⟩
    · obtain ⟨h1, h2⟩ := Prod.mk.inj h'.1
      rw [h1, h2]; exact ⟨rfl, rfl⟩

omit [FloatOps F] in
theorem total_apply (g : GSem nD τ sig) : ∑ d : Dev nD, O₀ d g () = ∑ x : Dev nD × Fin 4, (oR x.1 x.2 g () + oB x.1 x.2 g ()) := by
  rw [Fintype.sum_prod_type]
  refine Finset.sum_congr rfl fun d _ => ?_
  rw [O₀_sum, Finset.sum_apply, Finsupp.finset_sum_apply]
  rfl

theorem owed_bar (c : Dev nD) : ∑ d : Dev nD, O₀ d (barCell c) () = 3 := by
  rw [total_apply, Finset.sum_congr rfl fun x _ => by rw [oR_bar, oB_at, Nat.zero_add],
    Equiv.sum_comp swap (fun y : Dev nD × Fin 4 => if y.1 = c ∧ y.2 ≠ slot y.1 then 1 else 0), Fintype.sum_prod_type]
  rw [Finset.sum_eq_single c (fun d _ h => Finset.sum_eq_zero fun q _ => if_neg fun h' => h h'.1) (fun h => absurd (Finset.mem_univ _) h)]
  simp only [true_and]
  revert c; decide

theorem owed_recv (c : Dev nD) (p : Fin 4) : ∑ d : Dev nD, O₀ d (recvCell c p) () = if p = slot c then 0 else N := by
  rw [total_apply, Finset.sum_congr rfl fun x _ => by rw [oB_recv, oR_at, Nat.add_zero],
    Equiv.sum_comp swap (fun y : Dev nD × Fin 4 => if y = (c, p) ∧ p ≠ slot c then N else 0)]
  rw [Finset.sum_eq_single (c, p) (fun d _ h => if_neg fun h' => h h'.1) (fun h => absurd (Finset.mem_univ _) h)]
  by_cases h : p = slot c
  · rw [if_pos h, if_neg (fun h' => h'.2 h)]
  · rw [if_neg h, if_pos ⟨rfl, h⟩]

omit [FloatOps F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, owed_bar]
omit [FloatOps F] in
theorem launch_recv (c : Dev nD) (p : Fin 4) (h : p ≠ slot c) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, owed_recv, if_neg h]

omit [FloatOps F] in
/-- A device's credit at launch holds what it waits with. -/
theorem creds (c : Dev nD) : (Pipeline.launchCred O₀ c : sProp 𝕄) ⊢ credits c := by
  unfold Pipeline.launchCred credits
  refine (bigSep_subset (t := Finset.univ.map ⟨csem, csem_injective⟩) (Finset.subset_univ _)).trans ?_
  rw [bigSep_map, bigSep_univ_sum, bigSep_univ_sum, bigSep_univ_of_subsingleton ()]
  show iprop(cred (tallyOn (barCell c) (launchCredit (Pipeline.owing O₀) 0 (barCell c)))
    ∗ bigSep Finset.univ (fun p : Fin 4 => cred (tallyOn (sendCell c p) (launchCredit (Pipeline.owing O₀) 0 (sendCell c p))))
    ∗ bigSep Finset.univ (fun p : Fin 4 => cred (tallyOn (recvCell c p) (launchCredit (Pipeline.owing O₀) 0 (recvCell c p))))) ⊢ _
  rw [launch_bar]
  have hr : (bigSep Finset.univ (fun p : Fin 4 => cred (tallyOn (recvCell c p) (launchCredit (Pipeline.owing O₀) 0 (recvCell c p)))) : sProp 𝕄)
      ⊢ bigSep Finset.univ (fun p => but (slot c) p (cred (tallyAt (recvCell c p) () N))) := bigSep_mono fun p _ => by
    by_cases h : p = slot c
    · subst h; rw [but_self]; exact true_intro
    · rw [but_ne h, launch_recv c p h]; exact BI.Entails.refl _
  iintro ⟨Hb, -, Hr⟩
  isplitl [Hb]; · iexact Hb
  iapply hr; iexact Hr

/-! ## The run -/

omit [FloatOps F] in
theorem held_eq (c : Dev nD) : (Pipeline.unscopedRestP (Ix := Unit) (Name := ℕ) (U := UU) (Lvl := ℕ) Pipeline.Prefetch.none cfg0.spec c (fun b => m ((c : Thread nD τ).loc b)) : sProp 𝕄) = held m c := by
  rw [Pipeline.unscopedRestP_none]
  exact unscopedRest0_eq c _

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [held_eq]
  unfold G'
  iintro ⟨Hh, #Hlev, Hcr, -, Hrec, Hg, Hlc⟩
  ihave Hc := (creds (F := F) c) $$ Hcr
  imodintro
  unfold start
  isplitl
  · isplitl [Hrec]; · iexact Hrec
    isplitl [Hg]; · iexact Hg
    isplitl [Hc]; · iexact Hc
    isplitl [Hlc]; · iexact Hlc
    isplitl [Hh]; · iexact Hh
    iexact Hlev
  · iempintro

omit [FloatOps F] in
theorem scratch_eq (c : Dev nD) : (Pipeline.scopedRest (Ix := Unit) (Name := ℕ) (U := UU) (Lvl := ℕ) (Val := Elt F) cfg0.spec c : sProp 𝕄) = scratch c := scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

/-- At the end: the barrier's semaphore and the operands, the semaphores at zero, the scratch. -/
def rest (c : Dev nD) : sProp 𝕄 := iprop(unscopedSems0 c ∗ Pipeline.unscopedRestP (Ix := Unit) (Name := ℕ) (U := UU) (Lvl := ℕ) Pipeline.Prefetch.none cfg0.spec c (fun b => m ((c : Thread nD τ).loc b)))

theorem phi1_exit (c : Dev nD) :
    (dats m 0 c).Φ (Fin.last cfg0.N) ⊢ iprop(rest m c ∗ Pipeline.ownSems0 osem c ∗ Pipeline.scopedRest cfg0.spec c) := by
  have hc : bigSep Finset.univ (closed (F := F) c)
      = iprop(bigSep Finset.univ (fun p : Fin 4 => semVal (sendCell c p) 0) ∗ bigSep Finset.univ (fun p : Fin 4 => semVal (recvCell c p) 0)) := by
    rw [← bigSep_sep']; rfl
  unfold rest
  rw [show (dats m 0 c).Φ (Fin.last cfg0.N) = Φ₁ m c from rfl, scratch_eq, ownSems0_eq, unscopedSems0_eq, held_eq]
  unfold Φ₁
  rw [hc]
  iintro ⟨Hz, Hcl, Hlc, Hsc, Hh⟩
  isplitl [Hz Hh]; · isplitl [Hz] <;> iassumption
  isplitl [Hcl Hlc]; · isplitl [Hlc] <;> iassumption
  iexact Hsc

theorem waits (c : Dev nD) : (levAts L lv : sProp 𝕄) ⊢ Pipeline.cellsWaits cfgs (dats m) () 0 c :=
  Pipeline.cellsWaits_intro cfgs (dats m) () 0 c fun w s t =>
    mayWait_low c _ (fun u => by cases u; fin_cases w <;> fin_cases s <;> rfl) _ (by
      rcases t with ⟨_ | _, ht⟩
      · exact fun g u h => O₀_pos h
      · exact fun g u h => absurd h (Nat.lt_irrefl 0))

def finalA (c : Dev nD) (w : Fin cfg0.W) : Buf (Elt F) ((cfg0.win w).arr.view.loc (c : Thread nD τ)) := (dats m 0 c).arrAt w cfg0.N

/-- What every final state has: the windows' arrays as the pipeline leaves them, the operands as they were. -/
def Final (s : MemSt nD τ sig (Elt F)) : Prop :=
  ∀ c : Dev nD, (∀ w : Fin cfg0.W, s.mem ((cfg0.win w).arr.view.loc (c : Thread nD τ)) = finalA m c w)
    ∧ s.mem ((c : Thread nD τ).loc main_arg0) = m ((c : Thread nD τ).loc main_arg0)
    ∧ s.mem ((c : Thread nD τ).loc main_arg1) = m ((c : Thread nD τ).loc main_arg1)

def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)

theorem rest_read (c : Dev nD) (s' : Phys nD τ sig (Elt F)) :
    iprop(rest m c ∗ emp ∗ SI s') ⊢ (|={Set.univ}=> iprop(⌜QY m c s'.mem⌝ ∗ SI s') : sProp 𝕄) := by
  unfold rest Pipeline.unscopedRestP
  iintro ⟨⟨Hu, Hr⟩, -, HSI⟩
  ihave H := (pointsTo_read_all _ (fun b : Ref sig .tc => (c : Thread nD τ).loc b) (fun b => m ((c : Thread nD τ).loc b)) s') $$ [Hr HSI]
  · isplitl [Hr] <;> iassumption
  icases H with ⟨%hr, HSI⟩
  imod (Pipeline.unscopedSems0_read (X := unscopedSems0 c) (c := c) fupd_intro s') $$ [Hu HSI] with ⟨%hu, HSI⟩
  · isplitl [Hu] <;> iassumption
  imodintro
  isplitr
  · ipureintro; exact ⟨hu, hr main_arg0 (by decide), hr main_arg1 (by decide)⟩
  iexact HSI

set_option maxRecDepth 8000 in
/-- On the sixteen devices, from any memory with zero counters: every weakly fair execution of @main terminates, its arrays end
    as `Final` says, and every semaphore counter is at zero. -/
theorem run_main : θ_run defs (onTc (τ := τ) (main (F := F))) (⟨m, fun _ => 0, ρ⟩ : MemSt nD τ sig (Elt F)) (fun r => Final m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (fund_plane m) $$ [HX] with HG
      · iexact HX
      imodintro
      isplitl [HP] <;> iassumption)
    (hglob := glob m)
    (hA := fun _ _ => rfl) (hpf := fun _ k => k.elim0)
    (X := start m) (Y := rest m) (Z := fun _ => iprop(emp))
    (hX := start_intro m ρ) (hin := phi0_intro m) (hout := phi1_exit m)
    (QY := QY m) (hY := rest_read m)
    (hQ := fun _ h hs => ⟨fun c => ⟨(h c).1, (h c).2.2.2⟩, sem_eq_zero hs fun c => (h c).2.2.1⟩)

/-- The labels' array after the run holds what it held. -/
theorem finalA_labels (c : Dev nD) : finalA m c (0 : Fin 2) = m ((c : Thread nD τ).loc main_arg2) :=
  (dats (F := F) m 0 c).arrAt_in (0 : Fin 2) rfl _

/-- The frame: every final state has the arguments as they were, and every counter at zero. -/
theorem run_frame : θ_run defs (onTc (τ := τ) (main (F := F))) (⟨m, fun _ => 0, ρ⟩ : MemSt nD τ sig (Elt F)) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => ⟨(h.1 c).2.1, (h.1 c).2.2, ((h.1 c).1 (0 : Fin 2)).trans (finalA_labels m c)⟩, h.2⟩) (run_main m ρ)

end Cert.KernelIdeal.Plane

end
-- ==== Proof.Arrays.lean ====
/-
The labels a device's body reads and the array its result ends in, for any float values: the labels' and the result's
windows are the whole arrays.
-/
module

public import proofs.«01_k».proof.Proof.Launch

@[expose] public section

noncomputable section

namespace Cert.KernelIdeal.Plane

open Cert.KernelIdeal Cert.KernelIdeal.Gen

open Idealize.ShloMosaic Idealize.ShloMosaic.Pipeline
open Idealize.ShloMosaic.TcCoe

variable {F : FTy → Type} [FloatOps F] (m : (ℓ : Loc nD τ sig) → Buf (Elt F) ℓ)

/-- The labels' window places every element where it is, -/
theorem emb_labels (i : S1024x1.Idx) : (win0_0.blk (0 : Fin 1)).view.emb i = i := by
  funext a
  apply Fin.ext
  refine (ValueKit.view_emb_slice_whole_unit_val main_arg2 _ _ _ _ a).trans ?_
  fin_cases a <;> exact Nat.zero_add _

/-- and so does the result's. -/
theorem emb_result (i : S1024x1.Idx) : (win0_1.blk (0 : Fin 1)).view.emb i = i := by
  funext a
  apply Fin.ext
  refine (ValueKit.view_emb_slice_whole_unit_val main_v1 _ _ _ _ a).trans ?_
  fin_cases a <;> exact Nat.zero_add _

/-- A device's body reads the labels as launched. -/
theorem labelsOf_apply (c : Dev nD) (i : S1024x1.Idx) : labelsOf m c i = m ((c : Thread nD τ).loc main_arg2) i := by
  unfold labelsOf
  refine (View.read_apply ..).trans ?_
  exact congrArg (m ((c : Thread nD τ).loc main_arg2)) (emb_labels i)

/-- The result's array ends with what the body leaves in its staging buffer. -/
theorem finalA_result (c : Dev nD) (i : S1024x1.Idx) : finalA m c (1 : Fin 2) i = outOf (colsOf m) c i := by
  have h : finalA m c (1 : Fin 2) = (win0_1.blk (0 : Fin 1)).view.write (Elt F) ((dats m 0 c).arrAt (1 : Fin 2) 0)
      ((dats m 0 c).flushed (1 : Fin 2) (0 : Fin 1)) Finset.univ :=
    ((dats m 0 c).arrAt_succ (1 : Fin 2) (0 : Fin 1)).trans (if_pos (flush0_1 (0 : Fin 1)))
  have hr := congrFun (View.read_write_univ (v := (win0_1.blk (0 : Fin 1)).view) ((dats m 0 c).arrAt (1 : Fin 2) 0)
    ((dats m 0 c).flushed (1 : Fin 2) (0 : Fin 1))) i
  rw [← h] at hr
  refine Eq.trans ?_ hr
  refine Eq.trans ?_ (View.read_apply ..).symm
  exact congrArg (finalA m c (1 : Fin 2)) (emb_result i).symm

end Cert.KernelIdeal.Plane

end
-- ==== Proof.Sums.lean ====
/-
The mathematics of the loss, away from any program: the logits of a product, the logarithm of a sum of exponentials in
extended reals, and the columns of the vocabulary counted device by device, chunk by chunk.
-/
module

public import Idealize.ShloMosaic.Lib.Pointwise
public import Idealize.ShloMosaic.PureOps.Ideal.Laws
public import Mathlib.Analysis.SpecialFunctions.Log.Basic
public import Mathlib.Algebra.BigOperators.Field

@[expose] public section

noncomputable section

namespace Cert.Loss

open Idealize.ShloMosaic
open scoped BigOperators

/-! ## The loss of one row -/

/-- One logit: a row of `x` against a column of the weights. -/
def dot (x : (⟨2, ![1024, 2048]⟩ : Shape).Idx → EReal) (w : (⟨2, ![2048, 32768]⟩ : Shape).Idx → EReal) (r : Fin 1024) (v : Fin 32768) : EReal :=
  ∑ k : Fin 2048, x (ix2 r k) * w (ix2 k v)

/-- The loss of a row: the logarithm of the sum of its logits' exponentials, less the logit of its label. -/
def rowLoss (x : (⟨2, ![1024, 2048]⟩ : Shape).Idx → EReal) (w : (⟨2, ![2048, 32768]⟩ : Shape).Idx → EReal) (r : Fin 1024) (t : Fin 32768) : EReal :=
  Ideal.log (∑ v : Fin 32768, Ideal.exp (dot x w r v)) - dot x w r t

/-! ## Finite entries -/

/-- An extended real that is a real number. -/
def IsReal (a : EReal) : Prop := ∃ b : ℝ, a = (b : EReal)

/-- A magnitude below the infinite is a real number's. -/
theorem real_of_abs_lt {a : EReal} (h : max a (-a) < ⊤) : IsReal a := by
  induction a using EReal.rec with
  | bot => exact absurd h (by simp)
  | coe b => exact ⟨b, rfl⟩
  | top => exact absurd h (by simp)

/-- A finite sum of real numbers, taken in the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logits of finite rows and finite weights are finite. -/
theorem dot_real {x : (⟨2, ![1024, 2048]⟩ : Shape).Idx → EReal} {w : (⟨2, ![2048, 32768]⟩ : Shape).Idx → EReal}
    (hx : ∀ i, IsReal (x i)) (hw : ∀ i, IsReal (w i)) (r : Fin 1024) : ∃ l : Fin 32768 → ℝ, ∀ v, dot x w r v = (l v : EReal) := by
  choose a ha using hx
  choose b hb using hw
  refine ⟨fun v => ∑ k : Fin 2048, a (ix2 r k) * b (ix2 k v), fun v => ?_⟩
  rw [coe_sum]
  refine Finset.sum_congr rfl fun k _ => ?_
  rw [ha, hb, EReal.coe_mul]

/-- The greatest of finitely many real numbers, counted from minus infinity, is a real number. -/
theorem fold_max_real {n : ℕ} [NeZero n] (l : Fin n → ℝ) : ∃ m : ℝ, (Finset.univ : Finset (Fin n)).fold max (⊥ : EReal) (fun v => (l v : EReal)) = (m : EReal) := by
  have key : ∀ s : Finset (Fin n), s.Nonempty → ∃ m : ℝ, s.fold max (⊥ : EReal) (fun v => (l v : EReal)) = (m : EReal) := by
    intro s hs
    induction hs using Finset.Nonempty.cons_induction with
    | singleton a => exact ⟨l a, by simp⟩
    | cons a s ha hs ih =>
      obtain ⟨m, hm⟩ := ih
      refine ⟨max (l a) m, ?_⟩
      rw [Finset.fold_cons, hm]
      rcases le_total (l a) m with h | h
      · rw [max_eq_right h, max_eq_right (EReal.coe_le_coe_iff.mpr h)]
      · rw [max_eq_left h, max_eq_left (EReal.coe_le_coe_iff.mpr h)]
  exact key _ ⟨0, Finset.mem_univ _⟩

/-- The logarithm of a sum of exponentials does not depend on the number taken off every exponent and put back outside. -/
theorem log_sum_shift {n : ℕ} [NeZero n] (l : Fin n → ℝ) (m : ℝ) :
    (m : EReal) + Ideal.log (∑ v, Ideal.exp ((l v : EReal) - (m : EReal))) = Ideal.log (∑ v, Ideal.exp (l v : EReal)) := by
  have hpos : 0 < ∑ v, Real.exp (l v) := Finset.sum_pos (fun v _ => Real.exp_pos _) ⟨0, Finset.mem_univ _⟩
  have hm := Real.exp_pos m
  have hl : (∑ v, Ideal.exp ((l v : EReal) - (m : EReal))) = ((∑ v, Real.exp (l v)) / Real.exp m : ℝ) := by
    rw [Finset.sum_div, coe_sum]
    refine Finset.sum_congr rfl fun v _ => ?_
    rw [← EReal.coe_sub, Ideal.exp_coe, Real.exp_sub]
  have hr : (∑ v, Ideal.exp (l v : EReal)) = ((∑ v, Real.exp (l v) : ℝ) : EReal) := by
    rw [coe_sum]
    rfl
  rw [hl, hr, Ideal.log_coe, Ideal.log_coe, if_neg (not_le.mpr (div_pos hpos hm)), if_neg (not_le.mpr hpos), Real.log_div hpos.ne' hm.ne',
    Real.log_exp, ← EReal.coe_add, add_sub_cancel]

/-! ## The columns, device by device -/

set_option backward.proofsInPublic true in
/-- The vocabulary column of lane `k` of chunk `j` of the plane's device at place `p`: place `2 x + y` has the `x`-th half
of the `y`-th half of the columns. -/
def column (p : Fin 4) (j : Fin 8) (k : Fin 1024) : Fin 32768 :=
  ⟨(p.val % 2) * 16384 + (p.val / 2) * 8192 + 1024 * j.val + k.val, by
    have := p.isLt; have := j.isLt; have := k.isLt; omega⟩

/-- Every column is counted once. -/
theorem column_bijective : Function.Bijective (fun q : Fin 4 × Fin 8 × Fin 1024 => column q.1 q.2.1 q.2.2) := by
  constructor
  · rintro ⟨p, j, k⟩ ⟨p', j', k'⟩ h
    have h0 := congrArg Fin.val h
    change (p.val % 2) * 16384 + (p.val / 2) * 8192 + 1024 * j.val + k.val = (p'.val % 2) * 16384 + (p'.val / 2) * 8192 + 1024 * j'.val + k'.val at h0
    have := p.isLt; have := j.isLt; have := k.isLt; have := p'.isLt; have := j'.isLt; have := k'.isLt
    obtain rfl : p = p' := Fin.ext (by omega)
    obtain rfl : j = j' := Fin.ext (by omega)
    obtain rfl : k = k' := Fin.ext (by omega)
    rfl
  · intro v
    have := v.isLt
    refine ⟨(⟨2 * (v.val / 8192 % 2) + v.val / 16384, by omega⟩, ⟨v.val / 1024 % 8, by omega⟩, ⟨v.val % 1024, by omega⟩), Fin.ext ?_⟩
    show ((2 * (v.val / 8192 % 2) + v.val / 16384) % 2) * 16384 + ((2 * (v.val / 8192 % 2) + v.val / 16384) / 2) * 8192 + 1024 * (v.val / 1024 % 8) + v.val % 1024 = v.val
    have h (a b : ℕ) (hb : b < 2) : (2 * a + b) % 2 = b ∧ (2 * a + b) / 2 = a := by omega
    obtain ⟨h1, h2⟩ := h (v.val / 8192 % 2) (v.val / 16384) (by omega)
    rw [h1, h2]
    omega

/-- A sum over the four places, the eight chunks and the lanes is the sum over the columns. -/
theorem sum_column (f : Fin 32768 → EReal) : ∑ p : Fin 4, ∑ j : Fin 8, ∑ k : Fin 1024, f (column p j k) = ∑ v, f v := by
  rw [← Function.Bijective.sum_comp column_bijective f, Fintype.sum_prod_type]
  refine Finset.sum_congr rfl fun p _ => ?_
  rw [Fintype.sum_prod_type]

end Cert.Loss

end
-- ==== Proof.Loss.lean ====
/-
The kernel's result at the ideal values, read at a row: the logarithm of the sum over all columns of the exponentials of
the row's logits, less the logit of the row's label.
-/
module

public import proofs.«01_k».proof.Proof.Launch
public import proofs.«01_k».proof.Proof.Sums
public import Idealize.ShloMosaic.Lib.Pointwise
public import Idealize.ShloMosaic.Lib.Layout

@[expose] public section

noncomputable section

namespace Cert.KernelIdeal.Plane

open Cert.KernelIdeal Cert.KernelIdeal.Gen Cert.Loss

open Idealize.ShloMosaic
open Idealize.ShloMosaic.TcCoe
open scoped BigOperators

/-! ## The steps, read at a row -/

/-- A chunk's logits are the products' sums. -/
theorem logit_apply (x : Vec Ideal S1024x2048 .f32) (w : Vec Ideal S2048x1024 .f32) (r k : Fin 1024) :
    logit x w (ix2 r k) = ∑ i : Fin 2048, (x (ix2 r i) : EReal) * w (ix2 i k) := by
  pointwise [logit]

/-- The running sum gains the chunk's exponentials. -/
theorem sStep_apply (s : FVec Ideal S1024x1 .f32) (z : FVec Ideal S1024x1024 .f32) (r : Fin 1024) :
    sStep s z (ix2 r (0 : Fin 1)) = (s (ix2 r (0 : Fin 1)) : EReal) + ∑ k : Fin 1024, Ideal.exp (z (ix2 r k)) := by
  pointwise [sStep]

/-- A choice on a comparison for equality. -/
theorem select_eq {α : Type} (a b : BitVec 32) (x y : α) :
    Scalar.select (IntOp.cmpi CmpIPredicate.eq a b) x y = if a = b then x else y := by
  by_cases h : a = b
  · subst h
    rw [if_pos rfl]
    simp [Scalar.select, IntOp.cmpi]
  · rw [if_neg h]
    have h' : (a == b) = false := by simpa using h
    simp [Scalar.select, IntOp.cmpi, h']

/-- The running label logit gains the chunk's logit at the label, if the label is one of its lanes. -/
theorem gStep_apply (b o : BitVec 32) (g : FVec Ideal S1024x1 .f32) (l : Vec Ideal S1024x1 .i32) (z : FVec Ideal S1024x1024 .f32) (r : Fin 1024) :
    gStep b o g l z (ix2 r (0 : Fin 1)) = (g (ix2 r (0 : Fin 1)) : EReal)
      + ∑ k : Fin 1024, if BitVec.ofNat 32 k.val = l (ix2 r (0 : Fin 1)) - (b + o) then z (ix2 r k) else 0 := by
  pointwise [gStep]
  refine congrArg (_ + ·) (Finset.sum_congr rfl fun k _ => ?_)
  exact select_eq _ _ _ _

/-- The result is the logarithm of the first column's sum less the second's. -/
theorem pay1_apply (v : Vec Ideal S4x1024x2 .f32) (w : Vec Ideal S1024x2 .f32) (r : Fin 1024) :
    k0_pay1 v w (ix2 r (0 : Fin 1)) = Ideal.log ((∑ p : Fin 4, (v (ix3 p r (0 : Fin 2)) : EReal)) + w (ix2 r (0 : Fin 2)))
      - ((∑ p : Fin 4, (v (ix3 p r (1 : Fin 2)) : EReal)) + w (ix2 r (1 : Fin 2))) := by
  pointwise [k0_pay1]

/-- The cleared receive buffer holds zeros. -/
theorem pay2_apply (i : S4x1024x2.Idx) : (k0_pay2 (F := Ideal) i : EReal) = 0 := by
  pointwise [k0_pay2]

/-! ## Where a device's columns lie -/

/-- The first column of a device's chunk in its half of the weights' columns, -/
theorem off1_val : ∀ (c : Dev nD) (j : Fin 8), k0_off1 c (BitVec.ofNat 32 (1024 * j.val)) = ![0, ((slot c).val / 2) * 8192 + 1024 * j.val] := by
  decide +kernel
/-- and of its first chunk in the whole vocabulary. -/
theorem base_val : ∀ c : Dev nD, base c = BitVec.ofNat 32 (((slot c).val % 2) * 16384 + ((slot c).val / 2) * 8192) := by
  decide +kernel

/-- The blocks of the weights that the devices hold. -/
abbrev part (c : Dev nD) (w : (⟨2, ![2048, 32768]⟩ : Shape).Idx → EReal) : (⟨2, ![2048, 16384]⟩ : Shape).Idx → EReal :=
  Layout.blockN ⟨2, ![2048, 16384]⟩ ⟨2, ![2048, 32768]⟩ (Layout.meshBlock [2, 2, 4] ![[], [1]] c) w

/-- Device `c`'s block of the weights is the half that its place names. -/
theorem block_val : ∀ c : Dev nD, Layout.meshLin [2, 2, 4] c.val [1] = (slot c).val % 2 := by
  decide +kernel

/-- A device's chunk, where its half of the weights' columns is its block of the whole, has the columns `column` names. -/
theorem chunk_apply (c : Dev nD) (w : (⟨2, ![2048, 32768]⟩ : Shape).Idx → EReal) (j : Fin 8) (i : Fin 2048) (k : Fin 1024) :
    chunk (F := Ideal) c (part c w) j (ix2 i k) = w (ix2 i (column (slot c) j k)) := by
  unfold chunk
  show part c w ((hW (k0_off1 c (BitVec.ofNat 32 (1024 * j.val))) (k0_off1_inb c j)).view.emb (ix2 i k)) = _
  show w _ = w _
  refine congrArg w (funext fun a => Fin.ext ?_)
  rw [Layout.TilesN.idx_val]
  have he (b : Fin 2) : ((hW (k0_off1 c (BitVec.ofNat 32 (1024 * j.val))) (k0_off1_inb c j)).view.emb (ix2 i k) b).val
      = (![0, ((slot c).val / 2) * 8192 + 1024 * j.val] : Fin 2 → ℕ) b + ((ix2 i k : S2048x1024.Idx) b).val := by
    rw [← off1_val]
    exact ValueKit.view_emb_slice_whole_unit_val main_arg1 _ _ _ _ b
  fin_cases a
  · refine (congrArg (_ + ·) (he 0)).trans ?_
    show 0 * 2048 + (0 + i.val) = i.val
    omega
  · refine (congrArg (_ + ·) (he 1)).trans ?_
    show Layout.meshLin [2, 2, 4] c.val [1] * 16384 + (((slot c).val / 2) * 8192 + 1024 * j.val + k.val) = _
    rw [block_val]
    show _ = ((slot c).val % 2) * 16384 + ((slot c).val / 2) * 8192 + 1024 * j.val + k.val
    omega

/-- A lane of a chunk is a row's label just when the label is the lane's column. -/
theorem hit_iff (c : Dev nD) (j : Fin 8) (k : Fin 1024) (t : Fin 32768) :
    BitVec.ofNat 32 k.val = BitVec.ofNat 32 t.val - (base c + BitVec.ofNat 32 (1024 * j.val)) ↔ column (slot c) j k = t := by
  have hk := k.isLt
  have hj := j.isLt
  have ht := t.isLt
  have hs := (slot c).isLt
  rw [base_val, ← BitVec.ofNat_add, eq_comm, BitVec.sub_eq_iff_eq_add, ← BitVec.ofNat_add]
  constructor
  · intro h
    have h' := congrArg BitVec.toNat h
    rw [BitVec.toNat_ofNat, BitVec.toNat_ofNat, Nat.mod_eq_of_lt (by omega), Nat.mod_eq_of_lt (by omega)] at h'
    refine Fin.ext ?_
    show ((slot c).val % 2) * 16384 + ((slot c).val / 2) * 8192 + 1024 * j.val + k.val = t.val
    omega
  · rintro rfl
    refine congrArg (BitVec.ofNat 32) ?_
    show ((slot c).val % 2) * 16384 + ((slot c).val / 2) * 8192 + 1024 * j.val + k.val = _
    omega

/-! ## What a device sends, read at a row -/

section Rows
variable (x : (⟨2, ![1024, 2048]⟩ : Shape).Idx → EReal) (w : (⟨2, ![2048, 32768]⟩ : Shape).Idx → EReal) (r : Fin 1024) (t : Fin 32768)

/-- A chunk's logits are the logits of its columns. -/
theorem logit_chunk (c : Dev nD) (j : Fin 8) (k : Fin 1024) :
    logit (F := Ideal) x (chunk c (part c w) j) (ix2 r k) = dot x w r (column (slot c) j k) := by
  rw [logit_apply]
  exact Finset.sum_congr rfl fun i _ => congrArg (x (ix2 r i) * ·) (chunk_apply c w j i k)

/-- Counting to eight wraps no chunk's number. -/
theorem ofNat_val (j : Fin 8) : Fin.ofNat 8 j.val = j := by revert j; decide

/-- After some chunks the running sum has their columns' exponentials, -/
theorem sAt_apply (c : Dev nD) (n : ℕ) : (sAt (F := Ideal) c x (part c w) n (ix2 r (0 : Fin 1)) : EReal)
    = ∑ j ∈ Finset.range n, ∑ k : Fin 1024, Ideal.exp (dot x w r (column (slot c) (Fin.ofNat 8 j) k)) := by
  induction n with
  | zero =>
    rw [Finset.sum_range_zero]
    unfold sAt
    pointwise [k0_pay3]
  | succ n ih =>
    rw [Finset.sum_range_succ, ← ih]
    show sStep (sAt (F := Ideal) c x (part c w) n) (logit x (chunk c (part c w) (Fin.ofNat 8 n))) (ix2 r (0 : Fin 1)) = _
    rw [sStep_apply]
    simp only [logit_chunk]

/-- and the running label logit has the label's, if it was among them. -/
theorem gAt_apply (c : Dev nD) (l : Vec Ideal S1024x1 .i32) (hl : l (ix2 r (0 : Fin 1)) = BitVec.ofNat 32 t.val) (n : ℕ) (hn : n ≤ 8) :
    (gAt (F := Ideal) c x (part c w) l n (ix2 r (0 : Fin 1)) : EReal)
      = ∑ j ∈ Finset.range n, ∑ k : Fin 1024, if column (slot c) (Fin.ofNat 8 j) k = t then dot x w r (column (slot c) (Fin.ofNat 8 j) k) else 0 := by
  induction n with
  | zero =>
    rw [Finset.sum_range_zero]
    unfold gAt
    pointwise [k0_pay4]
  | succ n ih =>
    rw [Finset.sum_range_succ, ← ih (by omega)]
    show gStep (base c) (BitVec.ofNat 32 (1024 * n)) (gAt (F := Ideal) c x (part c w) l n) l (logit x (chunk c (part c w) (Fin.ofNat 8 n))) (ix2 r (0 : Fin 1)) = _
    have hv : (Fin.ofNat 8 n).val = n := Nat.mod_eq_of_lt (by omega)
    rw [gStep_apply, hl]
    have hh (k : Fin 1024) := hit_iff c (Fin.ofNat 8 n) k t
    rw [hv] at hh
    simp only [logit_chunk, hh]

/-- A device sends the sum of its columns' exponentials, -/
theorem stats_sum (c : Dev nD) (l : Vec Ideal S1024x1 .i32) :
    (stats (F := Ideal) c x (part c w) l (ix2 r (0 : Fin 2)) : EReal)
      = ∑ j : Fin 8, ∑ k : Fin 1024, Ideal.exp (dot x w r (column (slot c) j k)) := by
  show sAt (F := Ideal) c x (part c w) 8 (ValueIdx.ix2 r (0 : Fin 1)) = _
  rw [← ix2_eq_valueIdx, sAt_apply, Finset.sum_range]
  simp only [ofNat_val]

/-- and the logit of the label where one of its columns is it. -/
theorem stats_label (c : Dev nD) (l : Vec Ideal S1024x1 .i32) (hl : l (ix2 r (0 : Fin 1)) = BitVec.ofNat 32 t.val) :
    (stats (F := Ideal) c x (part c w) l (ix2 r (1 : Fin 2)) : EReal)
      = ∑ j : Fin 8, ∑ k : Fin 1024, if column (slot c) j k = t then dot x w r (column (slot c) j k) else 0 := by
  show gAt (F := Ideal) c x (part c w) l 8 (ValueIdx.ix2 r (0 : Fin 1)) = _
  rw [← ix2_eq_valueIdx, gAt_apply x w r t c l hl 8 le_rfl, Finset.sum_range]
  simp only [ofNat_val]

/-- What a device receives and its own add up to what the four devices of its plane have. -/
theorem recv_sum (st : Dev nD → Vec Ideal S1024x2 .f32) (c : Dev nD) (b : Fin 2) :
    (∑ p : Fin 4, (recvAt (F := Ideal) st c (ix3 p r b) : EReal)) + st c (ix2 r b) = ∑ p : Fin 4, (st (peer c p) (ix2 r b) : EReal) := by
  have hp (p : Fin 4) : (recvAt (F := Ideal) st c (ix3 p r b) : EReal) = if p = slot c then 0 else (st (peer c p) (ix2 r b) : EReal) := by
    by_cases h : p = slot c
    · rw [if_pos h]
      refine Eq.trans ?_ (pay2_apply (ix3 p r b))
      exact if_pos (congrArg Fin.val h)
    · rw [if_neg h, ix3_eq_valueIdx, recvAt_slot st c p h, ix2_eq_valueIdx]
  have ho : (st c (ix2 r b) : EReal) = ∑ p : Fin 4, if p = slot c then (st (peer c p) (ix2 r b) : EReal) else 0 := by
    rw [Finset.sum_ite_eq', if_pos (Finset.mem_univ _), peer_slot]
  rw [ho, ← Finset.sum_add_distrib]
  refine Finset.sum_congr rfl fun p _ => ?_
  rw [hp]
  by_cases h : p = slot c
  · rw [if_pos h, if_pos h, zero_add]
  · rw [if_neg h, if_neg h, add_zero]

/-- A row of a device's result is the row's loss. -/
theorem outOf_apply (st : Dev nD → Vec Ideal S1024x2 .f32) (c : Dev nD)
    (hst : ∀ d, ∃ l : Vec Ideal S1024x1 .i32, st d = stats (F := Ideal) d x (part d w) l ∧ l (ix2 r (0 : Fin 1)) = BitVec.ofNat 32 t.val) :
    (outOf (F := Ideal) st c (ix2 r (0 : Fin 1)) : EReal) = rowLoss x w r t := by
  have h0 (p : Fin 4) : (st (peer c p) (ix2 r (0 : Fin 2)) : EReal) = ∑ j : Fin 8, ∑ k : Fin 1024, Ideal.exp (dot x w r (column p j k)) := by
    obtain ⟨l, e, hl⟩ := hst (peer c p)
    rw [e, stats_sum, slot_peer]
  have h1 (p : Fin 4) : (st (peer c p) (ix2 r (1 : Fin 2)) : EReal)
      = ∑ j : Fin 8, ∑ k : Fin 1024, if column p j k = t then dot x w r (column p j k) else 0 := by
    obtain ⟨l, e, hl⟩ := hst (peer c p)
    rw [e, stats_label x w r t _ l hl, slot_peer]
  unfold outOf
  rw [pay1_apply, recv_sum, recv_sum]
  simp only [h0, h1]
  rw [sum_column (fun v => Ideal.exp (dot x w r v)), sum_column (fun v => if v = t then dot x w r v else 0), Finset.sum_ite_eq',
    if_pos (Finset.mem_univ _)]
  rfl

end Rows

end Cert.KernelIdeal.Plane

end
-- ==== Proof.Plain.lean ====
/-
The run of the reference, for any float values: its operations in order, what they make of the rows, the weights and the
labels, and that every execution ends with that and with the arguments as they were.
-/
module

public import proofs.«01_k».proof.ReferenceIdeal
public import proofs.«01_k».proof.Proof.Gen.ReferenceIdeal
public import Idealize.ShloMosaic.Lib.StableHlo.Run
public import Idealize.ShloMosaic.Lib.Quiescent

@[expose] public section

noncomputable section

namespace Cert.ReferenceIdeal.Plain

open Cert.ReferenceIdeal Cert.ReferenceIdeal.Gen
open Idealize.ShloMosaic Idealize.ShloMosaic.TcCoe Idealize.ShloMosaic.StableHlo Idealize.SL.Sem

variable {F : FTy → Type} [FloatOps F]

/-! ## What the reference computes -/

/-- The logits, -/
abbrev logits (x : FVec F S1024x2048 .f32) (w : FVec F S2048x32768 .f32) : FVec F S1024x32768 .f32 :=
  Host.dotGeneral dot_S1024x2048_S2048x32768_S1024x32768_1_0_0_1_n_n none x w
/-- the greatest of each row, as a column, -/
def peak (l : FVec F S1024x32768 .f32) : FVec F S1024x1 .f32 :=
  broadcastInDim S1024x1 ![0] bcast_S1024_S1024x1_0 (Host.reduce FloatOps.maximumf l (constant S_ .f32 0xFF800000#32) reducesTo_S1024x32768_S1024_d1 h_S_)
/-- the sums of the exponentials of the logits less their row's greatest, -/
def total (l : FVec F S1024x32768 .f32) : FVec F S1024 .f32 :=
  Host.reduceAdd (Host.exp (subf l (broadcastInDim S1024x32768 ![0, 1] bcast_S1024x1_S1024x32768_0_1 (peak l)))) (constant S_ .f32 0x00000000#32)
    reducesTo_S1024x32768_S1024_d1 h_S_
/-- and the logarithm of each row's sum of exponentials. -/
def logSum (l : FVec F S1024x32768 .f32) : FVec F S1024x1 .f32 :=
  addf (peak l) (Host.log (broadcastInDim S1024x1 ![0] bcast_S1024_S1024x1_0 (total l)))
/-- A word, or the word more `n` if it is below zero. -/
def wrapped (n : BitVec 32) (i : IVec S1024 32) : IVec S1024 32 :=
  select (cmpi .slt i (broadcastInDim S1024 ![] bcast_S_S1024 (constantI S_ 32 0#32)))
    (addi i (broadcastInDim S1024 ![] bcast_S_S1024 (constantI S_ 32 n))) i
/-- The row and the column that each row's label names. -/
def places (lab : IVec S1024x1 32) : IVec S1024x2 32 :=
  concatenate S1024x2 1 [⟨S1024x1, broadcastInDim S1024x1 ![0] bcast_S1024_S1024x1_0 (wrapped 1024#32 (iotaInDim S1024 32 0))⟩,
    ⟨S1024x1, broadcastInDim S1024x1 ![0] bcast_S1024_S1024x1_0 (wrapped 32768#32 (shapeCast S1024 lab shapeCasts_S1024x1_S1024))⟩]
    concatenates_S1024x1_S1024x1_S1024x2_d1
/-- The loss of each row. -/
def loss (x : FVec F S1024x2048 .f32) (w : FVec F S2048x32768 .f32) (lab : IVec S1024x1 32) : FVec F S1024x1 .f32 :=
  shapeCast S1024x1 (subf (shapeCast S1024 (logSum (logits x w)) shapeCasts_S1024x1_S1024)
    (Host.gather gather_S1024x32768_S1024x2_S1024_n_01_n_n_01_1_11 (logits x w) (places lab))) shapeCasts_S1024_S1024x1

/-! ## The run -/

/-- @main's operations, in order. -/
abbrev ops : List (HloOp τ sig (Elt F)) :=
  [ reshape main_arg2 main_v0 (rfl : (.i32 : EltTy) = .i32) shapeCasts_S1024x1_S1024,
    binary main_arg0 main_arg1 main_v1 ((fun l r => Host.dotGeneral dot_S1024x2048_S2048x32768_S1024x32768_1_0_0_1_n_n none l r) : (⟨S1024x2048, .f32⟩ : BufTy).Contents (Elt F) → (⟨S2048x32768, .f32⟩ : BufTy).Contents (Elt F) → (⟨S1024x32768, .f32⟩ : BufTy).Contents (Elt F)),
    nullary main_cst (constant S_ .f32 0xFF800000#32),
    binary main_v1 main_cst main_v2 ((fun x v => Host.reduce FloatOps.maximumf x v reducesTo_S1024x32768_S1024_d1 h_S_) : (⟨S1024x32768, .f32⟩ : BufTy).Contents (Elt F) → (⟨S_, .f32⟩ : BufTy).Contents (Elt F) → (⟨S1024, .f32⟩ : BufTy).Contents (Elt F)),
    unary main_v2 main_v3 (broadcastInDim S1024x1 ![0] bcast_S1024_S1024x1_0 : (⟨S1024, .f32⟩ : BufTy).Contents (Elt F) → (⟨S1024x1, .f32⟩ : BufTy).Contents (Elt F)),
    unary main_v3 main_v4 (broadcastInDim S1024x32768 ![0, 1] bcast_S1024x1_S1024x32768_0_1 : (⟨S1024x1, .f32⟩ : BufTy).Contents (Elt F) → (⟨S1024x32768, .f32⟩ : BufTy).Contents (Elt F)),
    binary main_v1 main_v4 main_v5 (subf : (⟨S1024x32768, .f32⟩ : BufTy).Contents (Elt F) → (⟨S1024x32768, .f32⟩ : BufTy).Contents (Elt F) → (⟨S1024x32768, .f32⟩ : BufTy).Contents (Elt F)),
    unary main_v5 main_v6 (Host.exp : (⟨S1024x32768, .f32⟩ : BufTy).Contents (Elt F) → (⟨S1024x32768, .f32⟩ : BufTy).Contents (Elt F)),
    nullary main_cst_0 (constant S_ .f32 0x00000000#32),
    binary main_v6 main_cst_0 main_v7 ((fun x v => Host.reduceAdd x v reducesTo_S1024x32768_S1024_d1 h_S_) : (⟨S1024x32768, .f32⟩ : BufTy).Contents (Elt F) → (⟨S_, .f32⟩ : BufTy).Contents (Elt F) → (⟨S1024, .f32⟩ : BufTy).Contents (Elt F)),
    unary main_v7 main_v8 (broadcastInDim S1024x1 ![0] bcast_S1024_S1024x1_0 : (⟨S1024, .f32⟩ : BufTy).Contents (Elt F) → (⟨S1024x1, .f32⟩ : BufTy).Contents (Elt F)),
    unary main_v8 main_v9 (Host.log : (⟨S1024x1, .f32⟩ : BufTy).Contents (Elt F) → (⟨S1024x1, .f32⟩ : BufTy).Contents (Elt F)),
    binary main_v3 main_v9 main_v10 (addf : (⟨S1024x1, .f32⟩ : BufTy).Contents (Elt F) → (⟨S1024x1, .f32⟩ : BufTy).Contents (Elt F) → (⟨S1024x1, .f32⟩ : BufTy).Contents (Elt F)),
    reshape main_v10 main_v11 (rfl : (.f32 : EltTy) = .f32) shapeCasts_S1024x1_S1024,
    nullary main_v12 (iotaInDim S1024 32 0),
    nullary main_c (constantI S_ 32 0#32),
    unary main_c main_v13 (broadcastInDim S1024 ![] bcast_S_S1024 : (⟨S_, .i32⟩ : BufTy).Contents (Elt F) → (⟨S1024, .i32⟩ : BufTy).Contents (Elt F)),
    binary main_v12 main_v13 main_v14 (cmpi .slt : (⟨S1024, .i32⟩ : BufTy).Contents (Elt F) → (⟨S1024, .i32⟩ : BufTy).Contents (Elt F) → (⟨S1024, .i1⟩ : BufTy).Contents (Elt F)),
    nullary main_c_1 (constantI S_ 32 1024#32),
    unary main_c_1 main_v15 (broadcastInDim S1024 ![] bcast_S_S1024 : (⟨S_, .i32⟩ : BufTy).Contents (Elt F) → (⟨S1024, .i32⟩ : BufTy).Contents (Elt F)),
    binary main_v12 main_v15 main_v16 (addi : (⟨S1024, .i32⟩ : BufTy).Contents (Elt F) → (⟨S1024, .i32⟩ : BufTy).Contents (Elt F) → (⟨S1024, .i32⟩ : BufTy).Contents (Elt F)),
    ternary main_v14 main_v16 main_v12 main_v17 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    nullary main_c_2 (constantI S_ 32 0#32),
    unary main_c_2 main_v18 (broadcastInDim S1024 ![] bcast_S_S1024 : (⟨S_, .i32⟩ : BufTy).Contents (Elt F) → (⟨S1024, .i32⟩ : BufTy).Contents (Elt F)),
    binary main_v0 main_v18 main_v19 (cmpi .slt : (⟨S1024, .i32⟩ : BufTy).Contents (Elt F) → (⟨S1024, .i32⟩ : BufTy).Contents (Elt F) → (⟨S1024, .i1⟩ : BufTy).Contents (Elt F)),
    nullary main_c_3 (constantI S_ 32 32768#32),
    unary main_c_3 main_v20 (broadcastInDim S1024 ![] bcast_S_S1024 : (⟨S_, .i32⟩ : BufTy).Contents (Elt F) → (⟨S1024, .i32⟩ : BufTy).Contents (Elt F)),
    binary main_v0 main_v20 main_v21 (addi : (⟨S1024, .i32⟩ : BufTy).Contents (Elt F) → (⟨S1024, .i32⟩ : BufTy).Contents (Elt F) → (⟨S1024, .i32⟩ : BufTy).Contents (Elt F)),
    ternary main_v19 main_v21 main_v0 main_v22 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v17 main_v23 (broadcastInDim S1024x1 ![0] bcast_S1024_S1024x1_0 : (⟨S1024, .i32⟩ : BufTy).Contents (Elt F) → (⟨S1024x1, .i32⟩ : BufTy).Contents (Elt F)),
    unary main_v22 main_v24 (broadcastInDim S1024x1 ![0] bcast_S1024_S1024x1_0 : (⟨S1024, .i32⟩ : BufTy).Contents (Elt F) → (⟨S1024x1, .i32⟩ : BufTy).Contents (Elt F)),
    binary main_v23 main_v24 main_v25 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)),
    binary main_v1 main_v25 main_v26 ((fun x i => Host.gather gather_S1024x32768_S1024x2_S1024_n_01_n_n_01_1_11 x i) : (⟨S1024x32768, .f32⟩ : BufTy).Contents (Elt F) → (⟨S1024x2, .i32⟩ : BufTy).Contents (Elt F) → (⟨S1024, .f32⟩ : BufTy).Contents (Elt F)),
    binary main_v11 main_v26 main_v27 (subf : (⟨S1024, .f32⟩ : BufTy).Contents (Elt F) → (⟨S1024, .f32⟩ : BufTy).Contents (Elt F) → (⟨S1024, .f32⟩ : BufTy).Contents (Elt F)),
    reshape main_v27 main_v28 (rfl : (.f32 : EltTy) = .f32) shapeCasts_S1024_S1024x1 ]

/-- @main is that straight line. -/
theorem main_eq (c : Dev nD) : main (F := F) c = seq ops := rfl

set_option maxHeartbeats 4000000 in
set_option maxRecDepth 8000 in
/-- The operations leave the losses in the result's buffer, -/
theorem out_eq (V : Valuation τ sig (Elt F)) : after ops V (main_v28 : DevRef τ sig)
    = loss (V (main_arg0 : DevRef τ sig)) (V (main_arg1 : DevRef τ sig)) (V (main_arg2 : DevRef τ sig)) := by
  after_results
  rfl

set_option maxHeartbeats 1000000 in
/-- and the arguments as they were. -/
theorem args_eq (V : Valuation τ sig (Elt F)) : after ops V (main_arg0 : DevRef τ sig) = V (main_arg0 : DevRef τ sig)
    ∧ after ops V (main_arg1 : DevRef τ sig) = V (main_arg1 : DevRef τ sig) ∧ after ops V (main_arg2 : DevRef τ sig) = V (main_arg2 : DevRef τ sig) := by
  refine ⟨?_, ?_, ?_⟩ <;> after_results

theorem scopedRefs_none : (Finset.univ.filter fun b : Ref sig .tc => b.isScoped) = ∅ := by decide
theorem scopedSems_none : (Finset.univ.filter fun sm : SemLoc sig => sm.isScoped .tc) = ∅ := by decide

/-- Every operation touches the core's own references. -/
theorem ops_own : (ops : List (HloOp τ sig (Elt F))).Forall fun op => op.bufs ⊆ tcRefs τ sig := by
  simp only [List.Forall]
  refine ⟨reshape_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., reshape_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., reshape_bufs_sub ..⟩

/-- On its one device, from any memory with zero counters: every weakly fair execution of @main terminates with the losses in
    the result's buffer and the arguments as they were. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v28)
          = loss (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v28).trans (out_eq _), (h c main_arg0).trans (args_eq _).1,
      (h c main_arg1).trans (args_eq _).2.1, (h c main_arg2).trans (args_eq _).2.2⟩)
    (run_seq scopedRefs_none scopedSems_none defs main (fun _ => ops) main_eq (fun _ => ops_own) m ρ)

/-- The frame: every execution ends with the arguments as they were; the program has no semaphore. -/
theorem run_frame (m : (ℓ : Loc nD τ sig) → Buf (Elt F) ℓ) (ρ : Dev nD → PrngReg) :
    θ_run defs (onTc (τ := τ) (main (F := F))) ⟨m, fun _ => 0, ρ⟩ fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (run_main m ρ)

end Cert.ReferenceIdeal.Plain

end
-- ==== Proof.Rows.lean ====
/-
The reference's result at the ideal values, read at a row, for finite rows and weights and a label in range.
-/
module

public import proofs.«01_k».proof.Proof.Plain
public import proofs.«01_k».proof.Proof.Sums
public import Idealize.ShloMosaic.Lib.Pointwise

@[expose] public section

noncomputable section

namespace Cert.ReferenceIdeal.Plain

open Cert.ReferenceIdeal Cert.ReferenceIdeal.Gen Cert.Loss

open Idealize.ShloMosaic
open scoped BigOperators

/-! ## The layouts, read at a row -/

section Layouts
variable {α : Type}

/-- A vector made a column. -/
theorem column_apply (g : S1024.Idx → α) (r : Fin 1024) :
    broadcastInDim S1024x1 ![0] bcast_S1024_S1024x1_0 g (ix2 r (0 : Fin 1)) = g (ix1 r) := by
  pointwise []
/-- A column spread over a row's columns. -/
theorem spread_apply (g : S1024x1.Idx → α) (r : Fin 1024) (v : Fin 32768) :
    broadcastInDim S1024x32768 ![0, 1] bcast_S1024x1_S1024x32768_0_1 g (ix2 r v) = g (ix2 r (0 : Fin 1)) := by
  pointwise []
/-- A vector reshaped to a column. -/
theorem toColumn_apply (g : S1024.Idx → α) (r : Fin 1024) :
    shapeCast S1024x1 g shapeCasts_S1024_S1024x1 (ix2 r (0 : Fin 1)) = g (ix1 r) := by
  pointwise []
/-- A column reshaped to a vector. -/
theorem ofColumn_apply (g : S1024x1.Idx → α) (r : Fin 1024) :
    shapeCast S1024 g shapeCasts_S1024x1_S1024 (ix1 r) = g (ix2 r (0 : Fin 1)) := by
  pointwise []

end Layouts

/-! ## The elementwise operations, read at an index -/

section Elementwise
variable {s : Shape} {φ : FTy} (a b : FVec Ideal s φ) (i : s.Idx)

/-- A sum's element. -/
theorem add_at : addf a b i = ((a i : EReal) + b i : EReal) := rfl
/-- A difference's element. -/
theorem sub_at : subf a b i = ((a i : EReal) - b i : EReal) := rfl
/-- An exponential's element. -/
theorem exp_at : Host.exp a i = Ideal.exp (a i) := rfl
/-- A logarithm's element. -/
theorem log_at : Host.log a i = Ideal.log (a i) := rfl

end Elementwise

/-! ## The logits and the logarithm of their exponentials' sum -/

/-- A logit is its row's product with its column. -/
theorem logits_apply (x : FVec Ideal S1024x2048 .f32) (w : FVec Ideal S2048x32768 .f32) (r : Fin 1024) (v : Fin 32768) :
    logits x w (ix2 r v) = dot x w r v := by
  pointwise [logits, dot]

/-- The pattern that a row's greatest is counted from is minus infinity. -/
theorem ofBits_negInf : Ideal.ofBits .f32 0xFF800000#32 = ⊥ := by
  simp [Ideal.ofBits, Ideal.ieee]

/-- A row's greatest logit. -/
theorem peak_apply (l : FVec Ideal S1024x32768 .f32) (r : Fin 1024) :
    peak l (ix2 r (0 : Fin 1)) = (Finset.univ : Finset (Fin 32768)).fold max (⊥ : EReal) (fun v => l (ix2 r v)) := by
  pointwise [peak]
  rw [ofBits_negInf]

/-- A row's sum. -/
theorem sum_apply (g : FVec Ideal S1024x32768 .f32) (r : Fin 1024) :
    Host.reduceAdd g (constant S_ .f32 0x00000000#32) reducesTo_S1024x32768_S1024_d1 h_S_ (ix1 r) = ∑ v : Fin 32768, (g (ix2 r v) : EReal) := by
  pointwise []

/-- A row's sum of exponentials, the greatest logit taken off each exponent. -/
theorem total_apply (l : FVec Ideal S1024x32768 .f32) (r : Fin 1024) :
    total l (ix1 r) = ∑ v : Fin 32768, Ideal.exp ((l (ix2 r v) : EReal) - peak l (ix2 r (0 : Fin 1))) := by
  unfold total
  rw [sum_apply]
  refine Finset.sum_congr rfl fun v _ => ?_
  rw [exp_at, sub_at, spread_apply]

/-- The logarithm of that sum, the greatest logit put back. -/
theorem logSum_apply (l : FVec Ideal S1024x32768 .f32) (r : Fin 1024) :
    logSum l (ix2 r (0 : Fin 1)) = (peak l (ix2 r (0 : Fin 1)) : EReal)
      + Ideal.log (∑ v : Fin 32768, Ideal.exp ((l (ix2 r v) : EReal) - peak l (ix2 r (0 : Fin 1)))) := by
  unfold logSum
  rw [add_at, log_at, column_apply, total_apply]

/-- For finite logits a row's greatest, taken off and put back, does not change the logarithm. -/
theorem logSum_real (l : FVec Ideal S1024x32768 .f32) (r : Fin 1024) (a : Fin 32768 → ℝ) (ha : ∀ v, l (ix2 r v) = (a v : EReal)) :
    logSum l (ix2 r (0 : Fin 1)) = Ideal.log (∑ v : Fin 32768, Ideal.exp (l (ix2 r v))) := by
  obtain ⟨p, hp⟩ := fold_max_real a
  have hk : peak l (ix2 r (0 : Fin 1)) = (p : EReal) := by
    rw [peak_apply, ← hp]
    exact congrArg (fun f => Finset.fold max (⊥ : EReal) f Finset.univ) (funext ha)
  rw [logSum_apply, hk]
  simp only [ha]
  exact log_sum_shift a p

/-! ## The label's place -/

/-- A word that is not below zero is left as it is. -/
theorem wrap_id (n i : BitVec 32) (h : i.toNat < 2 ^ 31) :
    Scalar.select (IntOp.cmpi CmpIPredicate.slt i 0#32) (IntOp.addi i n) i = i := by
  have hs : BitVec.slt i 0#32 = false := by
    rw [BitVec.slt_zero_eq_msb, BitVec.msb_eq_false_iff_two_mul_lt]
    omega
  simp [Scalar.select, IntOp.cmpi, hs]

/-- The first word that places a row's label is the row's own number, -/
theorem places_row (lab : IVec S1024x1 32) (r : Fin 1024) : places lab (ix2 r (0 : Fin 2)) = BitVec.ofNat 32 r.val := by
  pointwise [places, wrapped]
  have := r.isLt
  refine wrap_id _ _ ?_
  rw [BitVec.toNat_ofNat]
  omega

/-- the second the label, where it is a column. -/
theorem places_label (lab : IVec S1024x1 32) (r : Fin 1024) (t : Fin 32768) (h : lab (ix2 r (0 : Fin 1)) = BitVec.ofNat 32 t.val) :
    places lab (ix2 r (1 : Fin 2)) = BitVec.ofNat 32 t.val := by
  pointwise [places, wrapped]
  have := t.isLt
  rw [h]
  refine wrap_id _ _ ?_
  rw [BitVec.toNat_ofNat]
  omega

/-- A small word, read signed, is its number. -/
theorem start_val (n k : ℕ) (hn : n ≤ k) (hk : k < 2 ^ 31) : min (BitVec.ofNat 32 n).toInt.toNat k = n := by
  rw [BitVec.toInt_eq_toNat_of_msb, BitVec.toNat_ofNat, Int.toNat_natCast]
  · rw [Nat.mod_eq_of_lt (by omega)]
    omega
  · rw [BitVec.msb_eq_false_iff_two_mul_lt, BitVec.toNat_ofNat]
    omega

/-- Gathering at a row's own number and a column reads that element. -/
theorem gather_apply (l : FVec Ideal S1024x32768 .f32) (i : IVec S1024x2 32) (r : Fin 1024) (t : Fin 32768)
    (h0 : i (ix2 r (0 : Fin 2)) = BitVec.ofNat 32 r.val) (h1 : i (ix2 r (1 : Fin 2)) = BitVec.ofNat 32 t.val) :
    Host.gather gather_S1024x32768_S1024x2_S1024_n_01_n_n_01_1_11 l i (ix1 r) = l (ix2 r t) := by
  unfold Host.gather
  refine congrArg l (funext fun a => Fin.ext ?_)
  have hm : a ∈ gather_S1024x32768_S1024x2_S1024_n_01_n_n_01_1_11.startIndexMap := by
    revert a; decide
  show gather_S1024x32768_S1024x2_S1024_n_01_n_n_01_1_11.start (ix1 r) i a + gather_S1024x32768_S1024x2_S1024_n_01_n_n_01_1_11.batchCoord (ix1 r) a
    + gather_S1024x32768_S1024x2_S1024_n_01_n_n_01_1_11.offCoord (ix1 r) a = _
  rw [GatherDims.batchCoord_eq_zero _ _ _ List.not_mem_nil,
    GatherDims.offCoord_eq_zero _ _ _ (fun h => ((GatherDims.mem_sKept _ _).mp h).1 (by revert a; decide))]
  simp only [Nat.add_zero]
  unfold GatherDims.start
  rw [dif_pos hm]
  have hi : gather_S1024x32768_S1024x2_S1024_n_01_n_n_01_1_11.siIdx (ix1 r)
      ⟨List.idxOf a gather_S1024x32768_S1024x2_S1024_n_01_n_n_01_1_11.startIndexMap, List.idxOf_lt_length_iff.2 hm⟩ = ix2 r a := by
    funext b
    refine Fin.ext ?_
    fin_cases a <;> fin_cases b <;> rfl
  rw [hi]
  fin_cases a
  · refine Eq.trans ?_ (start_val r.val 1023 (by have := r.isLt; omega) (by norm_num))
    exact congrArg (fun z : BitVec 32 => min z.toInt.toNat 1023) h0
  · refine Eq.trans ?_ (start_val t.val 32767 (by have := t.isLt; omega) (by norm_num))
    exact congrArg (fun z : BitVec 32 => min z.toInt.toNat 32767) h1

/-- A row of the reference's result is the row's loss. -/
theorem loss_apply (x : FVec Ideal S1024x2048 .f32) (w : FVec Ideal S2048x32768 .f32) (lab : IVec S1024x1 32) (r : Fin 1024) (t : Fin 32768)
    (hx : ∀ i, IsReal (x i)) (hw : ∀ i, IsReal (w i)) (h : lab (ix2 r (0 : Fin 1)) = BitVec.ofNat 32 t.val) :
    loss x w lab (ix2 r (0 : Fin 1)) = rowLoss x w r t := by
  unfold loss
  rw [toColumn_apply, sub_at]
  obtain ⟨a, ha⟩ := dot_real hx hw r
  rw [ofColumn_apply, gather_apply _ _ r t (places_row lab r) (places_label lab r t h), logits_apply,
    logSum_real (logits x w) r a (fun v => (logits_apply x w r v).trans (ha v))]
  unfold rowLoss
  simp only [logits_apply]

end Cert.ReferenceIdeal.Plain

end
-- ==== Proof.Frames.lean ====
/-
The frames of the three programs. The kernel and its reading at the ideal instance are one text, so one run over any float
values gives both.
-/
module

public import proofs.«01_k».proof.Defs
public import proofs.«01_k».proof.Proof.Gen.Kernel
public import proofs.«01_k».proof.Proof.Launch
public import proofs.«01_k».proof.Proof.Plain

@[expose] public section

noncomputable section

namespace Cert.Proof

open Idealize.ShloMosaic Idealize.SL.Sem

/-- The kernel's body table is that of its reading, label by label; -/
theorem bodies_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Λ := Cert.Kernel.Λ₀)) ?_
  funext ℓ a
  rcases ℓ with ⟨_ | n, h⟩
  · rcases a with ⟨t, s⟩
    rfl
  · exact absurd h (Nat.not_lt.2 (Nat.le_add_left _ _))

/-- and so is the whole table. -/
theorem defs_eq : Cert.Kernel.defs (F := Bits) = Cert.KernelIdeal.defs (F := Bits) :=
  congrArg (Pipeline.defs (nD := Cert.Kernel.nD) (τ := Cert.Kernel.τ) Cert.Kernel.pcfgs) bodies_eq

/-- The kernel's frame, -/
theorem frame_kernel : Cert.quiescent_Kernel := fun m ρ _ => by
  rw [defs_eq]
  exact Cert.KernelIdeal.Plane.run_frame (F := Bits) m ρ

/-- the frame of its reading at the ideal instance, -/
theorem frame_ideal : Cert.quiescent_KernelIdeal := fun m ρ _ =>
  Cert.KernelIdeal.Plane.run_frame (F := Ideal) m ρ

/-- and the reference's. -/
theorem frame_reference : Cert.quiescent_ReferenceIdeal := fun m ρ _ =>
  Cert.ReferenceIdeal.Plain.run_frame (F := Ideal) m ρ

end Cert.Proof

end
-- ==== Proof.Equal.lean ====
/-
The value claim: on finite rows and weights and labels in range, every device of the kernel ends with the losses that the
reference computes of the whole arrays.
-/
module

public import proofs.«01_k».proof.Defs
public import proofs.«01_k».proof.Proof.Arrays
public import proofs.«01_k».proof.Proof.Loss
public import proofs.«01_k».proof.Proof.Rows
public import proofs.«01_k».proof.Proof.Frames

@[expose] public section

noncomputable section

namespace Cert.Proof

open Idealize.ShloMosaic Idealize.SL.Sem Cert.Loss Cert.KernelIdeal.Plane

/-! ## The precondition's shapes -/

/-- The precondition's broadcasts, of one device's blocks -/
instance facts_pre : Cert.Pre_finite_and_in_range_KernelIdeal.Facts where
  bcast_S_S1024x2048 := by decide
  bcast_S_S2048x16384 := by decide
  bcast_S_S1024x1 := by decide

/-- and of the whole arrays. -/
instance facts_pre_whole : Cert.Pre_finite_and_in_range_ReferenceIdeal.Facts where
  bcast_S_S1024x2048 := by decide
  bcast_S_S2048x32768 := by decide
  bcast_S_S1024x1 := by decide

/-! ## What the precondition says of an element -/

/-- The pattern the magnitudes are compared with is infinity. -/
theorem ofBits_inf : Ideal.ofBits .f32 0x7F800000#32 = ⊤ := by
  simp [Ideal.ofBits, Ideal.ieee]

/-- A magnitude that compares below infinity is a real number's. -/
theorem real_of_cmp {s : Shape} (a b : FVec Ideal s .f32) (i : s.Idx) (hb : b i = (⊤ : EReal)) (h : cmpf .olt (Host.absf a) b i = 1#1) : IsReal (a i) := by
  refine real_of_abs_lt ?_
  have h' : BitVec.ofBool (decide (max (a i : EReal) (-(a i : EReal)) < b i)) = 1#1 := h
  rw [hb] at h'
  by_contra hn
  rw [decide_eq_false hn] at h'
  exact absurd h' (by decide)

/-- A label that compares at least zero and below the vocabulary's size is a column. -/
theorem label_of_cmp (l : BitVec 32)
    (h : IntOp.andi (IntOp.cmpi .sge l 0#32) (IntOp.cmpi .slt l 32768#32) = 1#1) : ∃ t : Fin 32768, l = BitVec.ofNat 32 t.val := by
  have hl : l.toNat < 32768 := by
    have h2 : (0#32).sle l = true ∧ l.slt 32768#32 = true := by
      have h3 : BitVec.ofBool ((0#32).sle l) &&& BitVec.ofBool (l.slt 32768#32) = 1#1 := h
      revert h3
      cases (0#32).sle l <;> cases l.slt 32768#32 <;> decide
    have h4 := BitVec.sle_iff_toInt_le.mp h2.1
    have h5 := BitVec.slt_iff_toInt_lt.mp h2.2
    have h6 : (0#32).toInt = 0 := by decide
    have h7 : (32768#32).toInt = 32768 := by decide
    rw [h6] at h4
    rw [h7] at h5
    rw [BitVec.toInt_eq_toNat_cond] at h4 h5
    have := l.isLt
    split at h4 <;> split at h5 <;> omega
  exact ⟨⟨l.toNat, hl⟩, BitVec.eq_of_toNat_eq ((BitVec.toNat_ofNat ..).trans (Nat.mod_eq_of_lt l.isLt)).symm⟩

section Pre
variable (x : FVec Ideal Cert.Pre_finite_and_in_range_KernelIdeal.S1024x2048 .f32) (w : FVec Ideal Cert.Pre_finite_and_in_range_KernelIdeal.S2048x16384 .f32)
  (l : IVec Cert.Pre_finite_and_in_range_KernelIdeal.S1024x1 32)

/-- It says that every entry of the rows is a real number, -/
theorem pre_rows (h : (Cert.Pre_finite_and_in_range_KernelIdeal.fn (F := Ideal) x w l).1 = fun _ => 1#1) (i) : IsReal (x i) := by
  refine real_of_cmp x _ i ?_ (congrFun h i)
  exact ofBits_inf

/-- that every weight is, -/
theorem pre_weights (h : (Cert.Pre_finite_and_in_range_KernelIdeal.fn (F := Ideal) x w l).2.1 = fun _ => 1#1) (i) : IsReal (w i) := by
  refine real_of_cmp w _ i ?_ (congrFun h i)
  exact ofBits_inf

/-- and that every label is a column. -/
theorem pre_labels (h : (Cert.Pre_finite_and_in_range_KernelIdeal.fn (F := Ideal) x w l).2.2 = fun _ => 1#1) (i) :
    ∃ t : Fin 32768, l i = BitVec.ofNat 32 t.val :=
  label_of_cmp (l i) (congrFun h i)

end Pre

/-! ## The whole weights from the devices' blocks -/

/-- Every element of the whole weights lies in some device's block. -/
theorem whole_of_parts (w : (⟨2, ![2048, 32768]⟩ : Shape).Idx → EReal) (h : ∀ (c : Dev Cert.KernelIdeal.nD) i, IsReal (part c w i)) (i) : IsReal (w i) := by
  have h0 : (i 0).val < 2048 := (i 0).isLt
  have h1 : (i 1).val < 32768 := (i 1).isLt
  let c : Dev Cert.KernelIdeal.nD := ⟨4 * ((i 1).val / 16384), by show _ < 16; omega⟩
  let k : (⟨2, ![2048, 16384]⟩ : Shape).Idx := ix2 ⟨(i 0).val, h0⟩ ⟨(i 1).val % 16384, Nat.mod_lt _ (by decide)⟩
  have hk := h c k
  unfold part at hk
  rw [Layout.blockN_apply] at hk
  refine Eq.mp (congrArg (fun j => IsReal (w j)) (funext fun a => Fin.ext ?_)) hk
  rw [Layout.TilesN.idx_val]
  fin_cases a
  · show 0 * 2048 + (i 0).val = (i 0).val
    omega
  · show Layout.meshLin [2, 2, 4] c.val [1] * 16384 + (i 1).val % 16384 = (i 1).val
    rw [block_val]
    show (4 * ((i 1).val / 16384) / 4) % 2 * 16384 + (i 1).val % 16384 = (i 1).val
    omega

/-! ## The claim -/

/-- The kernel on its sixteen devices and the reference on the whole arrays end with the same losses. -/
theorem equal : Cert.algebraic_KernelIdeal_ReferenceIdeal_pre_finite_and_in_range_KernelIdeal := by
  intro m g m' g' hpre hargs
  refine ⟨_, ?_, (θ_run _ _ _).mono (fun r h => h 0) (Cert.ReferenceIdeal.Plain.run_main (F := Ideal) m' g')⟩
  refine (θ_run _ _ _).mono (fun r h c => ?_) (Cert.KernelIdeal.Plane.run_main (F := Ideal) m g)
  refine ⟨?_, (h.1 c).2.1, (h.1 c).2.2, ((h.1 c).1 (0 : Fin 2)).trans (finalA_labels m c)⟩
  refine ((h.1 c).1 (1 : Fin 2)).trans ?_
  funext (i : Cert.KernelIdeal.S1024x1.Idx)
  rw [finalA_result]
  obtain ⟨r, rfl⟩ : ∃ r : Fin 1024, i = ix2 r (0 : Fin 1) := ⟨i 0, by
    funext a
    fin_cases a
    · rfl
    · exact Subsingleton.elim (α := Fin 1) _ _⟩
  obtain ⟨t, ht⟩ := pre_labels _ _ _ (hpre c).2.2 (ix2 r (0 : Fin 1))
  rw [(hargs c).2.2] at ht
  have hw := whole_of_parts _ fun d i => by
    have hd := pre_weights _ _ _ (hpre d).2.1 i
    rw [(hargs d).2.1] at hd
    exact hd
  have hx (i) := pre_rows _ _ _ (hpre c).1 i
  rw [(hargs c).1] at hx
  refine Eq.trans ?_ (Cert.ReferenceIdeal.Plain.loss_apply _ _ _ r t hx hw ht).symm
  refine outOf_apply _ _ r t (colsOf m) c fun d => ⟨labelsOf m d, ?_, ?_⟩
  · unfold colsOf rowsOf weightsOf
    rw [(hargs d).1, (hargs d).2.1]
  · rw [labelsOf_apply, (hargs d).2.2]
    exact ht

/-- The kernel's frame under the precondition follows from the one without it. -/
theorem frame_ideal_pre : Cert.quiescent_KernelIdeal_pre_finite_and_in_range_KernelIdeal := fun m ρ _ => frame_ideal m ρ trivial
/-- So does the reference's. -/
theorem frame_reference_pre : Cert.quiescent_ReferenceIdeal_pre_finite_and_in_range_ReferenceIdeal := fun m ρ _ => frame_reference m ρ trivial

end Cert.Proof

end
-- ==== Proof.lean ====
/- The proof of the claims: each is proved in its own module, and put together here. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, facts_pre, facts_pre_whole,
  frame_kernel, frame_ideal, frame_ideal_pre, frame_reference, frame_reference_pre, trivial, equal⟩

end Cert.Proof

end
